-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "slope_lo" .f32 0xBE220005#32 ((-98877 / 625000 : ℝ) : EReal)
  ∧ IdealRules.named_const.Statement Cert.KernelIdeal.κ "slope_hi" .f32 0x3E220005#32 ((98877 / 625000 : ℝ) : EReal)
  ∧ IdealRules.named_const.Statement Cert.KernelIdeal.κ "kp" .f32 0x3EAEFFFD#32 ((213623 / 625000 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S131072x16 : Shape := ⟨2, ![131072, 16]⟩
abbrev S1024x8 : Shape := ⟨2, ![1024, 8]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S131072x4 : Shape := ⟨2, ![131072, 4]⟩
abbrev S131072x1 : Shape := ⟨2, ![131072, 1]⟩
abbrev S131072 : Shape := ⟨1, ![131072]⟩
abbrev S_ : Shape := ⟨0, ![]⟩

class Facts : Prop where
  slices_S131072x16_S131072x4_0_8 : S131072x16.Slices ![0, 8] S131072x4
  slices_S131072x16_S131072x1_0_15 : S131072x16.Slices ![0, 15] S131072x1
  shapeCasts_S131072x1_S131072 : S131072x1.ShapeCasts S131072
  bcast_S_S131072x4 : S_.BroadcastsInDim S131072x4 (![] : Fin 0 → Fin S131072x4.rank)
  bcast_S_S131072 : S_.BroadcastsInDim S131072 (![] : Fin 0 → Fin S131072.rank)
  bcast_S_S1024x8 : S_.BroadcastsInDim S1024x8 (![] : Fin 0 → Fin S1024x8.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_v5 : IVec S131072x4 1) (main_v8 : IVec S131072 1) (main_v11 : IVec S1024x8 1) (main_v14 : IVec S1024 1) (main_v17 : IVec S1024x1024 1) (main_v18 : FVec F S1024 .f32) : IVec S131072x4 1 × IVec S131072 1 × IVec S1024x8 1 × IVec S1024 1 × IVec S1024x1024 1 × IVec S1024 1 :=
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  (main_v5, main_v8, main_v11, main_v14, main_v17, main_v20)

def fn {F : FTy → Type} [FloatOps F] (main_arg0 : FVec F S131072x16 .f32) (main_arg1 : FVec F S1024x8 .f32) (main_arg2 : FVec F S1024 .f32) (main_arg3 : FVec F S1024 .f32) (main_arg4 : FVec F S1024 .f32) (main_arg5 : FVec F S1024x1024 .f32) (main_arg6 : FVec F S1024 .f32) (main_arg7 : FVec F S1024 .f32) (main_arg8 : FVec F S1024 .f32) (main_arg9 : FVec F S1x1024 .f32) (main_arg10 : FVec F S1 .f32) : IVec S131072x4 1 × IVec S131072 1 × IVec S1024x8 1 × IVec S1024 1 × IVec S1024x1024 1 × IVec S1024 1 :=
  let main_v0 : FVec F S131072x4 .f32 := (extractStridedSlice S131072x4 ![0, 8] · slices_S131072x16_S131072x4_0_8) main_arg0
  let main_v1 : FVec F S131072x1 .f32 := (extractStridedSlice S131072x1 ![0, 15] · slices_S131072x16_S131072x1_0_15) main_arg0
  let main_v2 : FVec F S131072 .f32 := shapeCast S131072 main_v1 shapeCasts_S131072x1_S131072
  let main_v3 : FVec F S131072x4 .f32 := Host.absf main_v0
  let main_cst : FVec F S_ .f32 := constant S_ .f32 0x7F800000#32
  let main_v4 : FVec F S131072x4 .f32 := broadcastInDim S131072x4 ![] bcast_S_S131072x4 main_cst
  let main_v5 : IVec S131072x4 1 := cmpf .olt main_v3 main_v4
  let main_v6 : FVec F S131072 .f32 := Host.absf main_v2
  let main_cst_0 : FVec F S_ .f32 := constant S_ .f32 0x7F800000#32
  let main_v7 : FVec F S131072 .f32 := broadcastInDim S131072 ![] bcast_S_S131072 main_cst_0
  let main_v8 : IVec S131072 1 := cmpf .olt main_v6 main_v7
  let main_v9 : FVec F S1024x8 .f32 := Host.absf main_arg1
  let main_cst_1 : FVec F S_ .f32 := constant S_ .f32 0x7F800000#32
  let main_v10 : FVec F S1024x8 .f32 := broadcastInDim S1024x8 ![] bcast_S_S1024x8 main_cst_1
  let main_v11 : IVec S1024x8 1 := cmpf .olt main_v9 main_v10
  let main_v12 : FVec F S1024 .f32 := Host.absf main_arg3
  let main_cst_2 : FVec F S_ .f32 := constant S_ .f32 0x7F800000#32
  let main_v13 : FVec F S1024 .f32 := broadcastInDim S1024 ![] bcast_S_S1024 main_cst_2
  let main_v14 : IVec S1024 1 := cmpf .olt main_v12 main_v13
  let main_v15 : FVec F S1024x1024 .f32 := Host.absf main_arg5
  let main_cst_3 : FVec F S_ .f32 := constant S_ .f32 0x7F800000#32
  let main_v16 : FVec F S1024x1024 .f32 := broadcastInDim S1024x1024 ![] bcast_S_S1024x1024 main_cst_3
  let main_v17 : IVec S1024x1024 1 := cmpf .olt main_v15 main_v16
  let main_v18 : FVec F S1024 .f32 := Host.absf main_arg7
  fn_part1 (F := F) main_v5 main_v8 main_v11 main_v14 main_v17 main_v18
-- ==== Kernel.lean ====
abbrev S131072x16 : Shape := ⟨2, ![131072, 16]⟩
abbrev S1024x8 : Shape := ⟨2, ![1024, 8]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩
abbrev S1024x1 : Shape := ⟨2, ![1024, 1]⟩
abbrev S1024x7 : Shape := ⟨2, ![1024, 7]⟩
abbrev S1024x16 : Shape := ⟨2, ![1024, 16]⟩
abbrev S1024x1032 : Shape := ⟨2, ![1024, 1032]⟩
abbrev S7 : Shape := ⟨1, ![7]⟩
abbrev S1032 : Shape := ⟨1, ![1032]⟩
abbrev S8x1032 : Shape := ⟨2, ![8, 1032]⟩
abbrev S16x131072 : Shape := ⟨2, ![16, 131072]⟩
abbrev S1x131072 : Shape := ⟨2, ![1, 131072]⟩
abbrev S16x512 : Shape := ⟨2, ![16, 512]⟩
abbrev S1x512 : Shape := ⟨2, ![1, 512]⟩
abbrev S8x512 : Shape := ⟨2, ![8, 512]⟩
abbrev S1024x512 : Shape := ⟨2, ![1024, 512]⟩
abbrev S1032x512 : Shape := ⟨2, ![1032, 512]⟩
abbrev S131072 : Shape := ⟨1, ![131072]⟩

abbrev nBuf : Space → Nat
  | .hbm => 47
  | .vmem => 7
  | .smem => 0
  | _ => 0

abbrev bufTy : (tb : Table) → Fin (tcTables nBuf tb) → BufTy
  | .hbm, ⟨0, _⟩ => ⟨S131072x16, .f32⟩
  | .hbm, ⟨1, _⟩ => ⟨S1024x8, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024x1, .f32⟩
  | .hbm, ⟨22, _⟩ => ⟨S1024x8, .f32⟩
  | .hbm, ⟨23, _⟩ => ⟨S1024x8, .f32⟩
  | .hbm, ⟨24, _⟩ => ⟨S1024x1, .f32⟩
  | .hbm, ⟨25, _⟩ => ⟨S_, .f32⟩
  | .hbm, ⟨26, _⟩ => ⟨S1024x7, .f32⟩
  | .hbm, ⟨27, _⟩ => ⟨S1024x16, .f32⟩
  | .hbm, ⟨28, _⟩ => ⟨S1024x1, .f32⟩
  | .hbm, ⟨29, _⟩ => ⟨S1024x1024, .f32⟩
  | .hbm, ⟨30, _⟩ => ⟨S1024x1024, .f32⟩
  | .hbm, ⟨31, _⟩ => ⟨S1024x1, .f32⟩
  | .hbm, ⟨32, _⟩ => ⟨S_, .f32⟩
  | .hbm, ⟨33, _⟩ => ⟨S1024x7, .f32⟩
  | .hbm, ⟨34, _⟩ => ⟨S1024x1032, .f32⟩
  | .hbm, ⟨35, _⟩ => ⟨S1024, .f32⟩
  | .hbm, ⟨36, _⟩ => ⟨S_, .f32⟩
  | .hbm, ⟨37, _⟩ => ⟨S7, .f32⟩
  | .hbm, ⟨38, _⟩ => ⟨S1032, .f32⟩
  | .hbm, ⟨39, _⟩ => ⟨S_, .f32⟩
  | .hbm, ⟨40, _⟩ => ⟨S8x1032, .f32⟩
  | .hbm, ⟨41, _⟩ => ⟨S_, .i32⟩
  | .hbm, ⟨42, _⟩ => ⟨S1, .i32⟩
  | .hbm, ⟨43, _⟩ => ⟨S8x1032, .f32⟩
  | .hbm, ⟨44, _⟩ => ⟨S16x131072, .f32⟩
  | .hbm, ⟨45, _⟩ => ⟨S1x131072, .f32⟩
  | .hbm, ⟨46, _⟩ => ⟨S131072, .f32⟩
  | .local _ .vmem, ⟨0, _⟩ => ⟨S16x512, .f32⟩
  | .local _ .vmem, ⟨1, _⟩ => ⟨S16x512, .f32⟩
  | .local _ .vmem, ⟨2, _⟩ => ⟨S1024x16, .f32⟩
  | .local _ .vmem, ⟨3, _⟩ => ⟨S1024x1032, .f32⟩
  | .local _ .vmem, ⟨4, _⟩ => ⟨S8x1032, .f32⟩
  | .local _ .vmem, ⟨5, _⟩ => ⟨S1x512, .f32⟩
  | .local _ .vmem, ⟨6, _⟩ => ⟨S1x512, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1032 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1032 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "kp" => some ((213623 / 625000 : ℝ) : EReal)
  | "slope_hi" => some ((98877 / 625000 : ℝ) : EReal)
  | "slope_lo" => some ((-98877 / 625000 : ℝ) : EReal)
  | _ => none
-- ==== ReferenceIdeal.lean ====
abbrev S131072x16 : Shape := ⟨2, ![131072, 16]⟩
abbrev S1024x8 : Shape := ⟨2, ![1024, 8]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S6 : Shape := ⟨1, ![6]⟩
abbrev S_ : Shape := ⟨0, ![]⟩
abbrev S131072x1 : Shape := ⟨2, ![131072, 1]⟩
abbrev S131072 : Shape := ⟨1, ![131072]⟩
abbrev S1x6 : Shape := ⟨2, ![1, 6]⟩
abbrev S131072x6 : Shape := ⟨2, ![131072, 6]⟩
abbrev S131072x8 : Shape := ⟨2, ![131072, 8]⟩
abbrev S8x1024 : Shape := ⟨2, ![8, 1024]⟩
abbrev S131072x1024 : Shape := ⟨2, ![131072, 1024]⟩
abbrev S1024x1 : Shape := ⟨2, ![1024, 1]⟩
abbrev S1x1 : Shape := ⟨2, ![1, 1]⟩

abbrev nBuf : Space → Nat
  | .hbm => 221
  | .vmem => 0
  | .smem => 0
  | _ => 0

abbrev hbmTy0_0 (i : Nat) : BufTy := match i % 128 with
  | 0 => ⟨S131072x16, .f32⟩
  | 1 => ⟨S1024x8, .f32⟩
  | 2 => ⟨S1024, .f32⟩
  | 3 => ⟨S1024, .f32⟩
  | 4 => ⟨S1024, .f32⟩
  | 5 => ⟨S1024x1024, .f32⟩
  | 6 => ⟨S1024, .f32⟩
  | 7 => ⟨S1024, .f32⟩
  | 8 => ⟨S1024, .f32⟩
  | 9 => ⟨S1x1024, .f32⟩
  | 10 => ⟨S1, .f32⟩
  | 11 => ⟨S6, .f32⟩
  | 12 => ⟨S6, .f32⟩
  | 13 => ⟨S6, .f32⟩
  | 14 => ⟨S6, .f32⟩
  | 15 => ⟨S_, .f32⟩
  | 16 => ⟨S6, .f32⟩
  | 17 => ⟨S6, .f32⟩
  | 18 => ⟨S131072x1, .f32⟩
  | 19 => ⟨S131072, .f32⟩
  | 20 => ⟨S131072x1, .f32⟩
  | 21 => ⟨S131072, .f32⟩
  | 22 => ⟨S131072x1, .f32⟩
  | 23 => ⟨S131072, .f32⟩
  | 24 => ⟨S131072x1, .f32⟩
  | 25 => ⟨S131072, .f32⟩
  | 26 => ⟨S131072x1, .f32⟩
  | 27 => ⟨S131072, .f32⟩
  | 28 => ⟨S131072, .f32⟩
  | 29 => ⟨S_, .f32⟩
  | 30 => ⟨S131072, .f32⟩
  | 31 => ⟨S131072, .f32⟩
  | 32 => ⟨S1x6, .f32⟩
  | 33 => ⟨S131072x1, .f32⟩
  | 34 => ⟨S131072x6, .f32⟩
  | 35 => ⟨S131072x6, .f32⟩
  | 36 => ⟨S131072x6, .i1⟩
  | 37 => ⟨S131072x6, .i32⟩
  | 38 => ⟨S_, .i32⟩
  | 39 => ⟨S131072, .i32⟩
  | 40 => ⟨S_, .i32⟩
  | 41 => ⟨S131072, .i32⟩
  | 42 => ⟨S131072, .i32⟩
  | 43 => ⟨S_, .i32⟩
  | 44 => ⟨S_, .i32⟩
  | 45 => ⟨S_, .i32⟩
  | 46 => ⟨S131072, .i32⟩
  | 47 => ⟨S131072, .i32⟩
  | 48 => ⟨S_, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072, .f32⟩
  | 60 => ⟨S_, .i32⟩
  | 61 => ⟨S131072, .i32⟩
  | 62 => ⟨S131072, .i32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S131072x1, .i32⟩
  | 71 => ⟨S131072, .f32⟩
  | 72 => ⟨S_, .i32⟩
  | 73 => ⟨S131072, .i32⟩
  | 74 => ⟨S131072, .i1⟩
  | 75 => ⟨S_, .i32⟩
  | 76 => ⟨S131072, .i32⟩
  | 77 => ⟨S131072, .i32⟩
  | 78 => ⟨S131072, .i32⟩
  | 79 => ⟨S131072x1, .i32⟩
  | 80 => ⟨S131072, .f32⟩
  | 81 => ⟨S_, .i32⟩
  | 82 => ⟨S131072, .i32⟩
  | 83 => ⟨S131072, .i32⟩
  | 84 => ⟨S_, .i32⟩
  | 85 => ⟨S131072, .i32⟩
  | 86 => ⟨S131072, .i1⟩
  | 87 => ⟨S_, .i32⟩
  | 88 => ⟨S131072, .i32⟩
  | 89 => ⟨S131072, .i32⟩
  | 90 => ⟨S131072, .i32⟩
  | 91 => ⟨S131072x1, .i32⟩
  | 92 => ⟨S131072, .f32⟩
  | 93 => ⟨S131072, .f32⟩
  | 94 => ⟨S131072, .f32⟩
  | 95 => ⟨S131072, .f32⟩
  | 96 => ⟨S131072, .f32⟩
  | 97 => ⟨S131072, .f32⟩
  | 98 => ⟨S131072, .f32⟩
  | 99 => ⟨S131072, .f32⟩
  | 100 => ⟨S_, .f32⟩
  | 101 => ⟨S131072, .f32⟩
  | 102 => ⟨S131072, .f32⟩
  | 103 => ⟨S1x6, .f32⟩
  | 104 => ⟨S131072x1, .f32⟩
  | 105 => ⟨S131072x6, .f32⟩
  | 106 => ⟨S131072x6, .f32⟩
  | 107 => ⟨S131072x6, .i1⟩
  | 108 => ⟨S131072x6, .i32⟩
  | 109 => ⟨S_, .i32⟩
  | 110 => ⟨S131072, .i32⟩
  | 111 => ⟨S_, .i32⟩
  | 112 => ⟨S131072, .i32⟩
  | 113 => ⟨S131072, .i32⟩
  | 114 => ⟨S_, .i32⟩
  | 115 => ⟨S_, .i32⟩
  | 116 => ⟨S_, .i32⟩
  | 117 => ⟨S131072, .i32⟩
  | 118 => ⟨S131072, .i32⟩
  | 119 => ⟨S_, .i32⟩
  | 120 => ⟨S131072, .i32⟩
  | 121 => ⟨S131072, .i32⟩
  | 122 => ⟨S_, .i32⟩
  | 123 => ⟨S131072, .i32⟩
  | 124 => ⟨S131072, .i1⟩
  | 125 => ⟨S_, .i32⟩
  | 126 => ⟨S131072, .i32⟩
  | 127 => ⟨S131072, .i32⟩
  | _ => ⟨S131072x16, .f32⟩

abbrev hbmTy0_1 (i : Nat) : BufTy := match i % 128 with
  | 0 => ⟨S131072, .i32⟩
  | 1 => ⟨S131072x1, .i32⟩
  | 2 => ⟨S131072, .f32⟩
  | 3 => ⟨S_, .i32⟩
  | 4 => ⟨S131072, .i32⟩
  | 5 => ⟨S131072, .i32⟩
  | 6 => ⟨S_, .i32⟩
  | 7 => ⟨S131072, .i32⟩
  | 8 => ⟨S131072, .i1⟩
  | 9 => ⟨S_, .i32⟩
  | 10 => ⟨S131072, .i32⟩
  | 11 => ⟨S131072, .i32⟩
  | 12 => ⟨S131072, .i32⟩
  | 13 => ⟨S131072x1, .i32⟩
  | 14 => ⟨S131072, .f32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S131072x1, .i32⟩
  | 23 => ⟨S131072, .f32⟩
  | 24 => ⟨S_, .i32⟩
  | 25 => ⟨S131072, .i32⟩
  | 26 => ⟨S131072, .i32⟩
  | 27 => ⟨S_, .i32⟩
  | 28 => ⟨S131072, .i32⟩
  | 29 => ⟨S131072, .i1⟩
  | 30 => ⟨S_, .i32⟩
  | 31 => ⟨S131072, .i32⟩
  | 32 => ⟨S131072, .i32⟩
  | 33 => ⟨S131072, .i32⟩
  | 34 => ⟨S131072x1, .i32⟩
  | 35 => ⟨S131072, .f32⟩
  | 36 => ⟨S131072, .f32⟩
  | 37 => ⟨S131072, .f32⟩
  | 38 => ⟨S131072, .f32⟩
  | 39 => ⟨S131072, .f32⟩
  | 40 => ⟨S131072, .f32⟩
  | 41 => ⟨S131072, .f32⟩
  | 42 => ⟨S131072, .f32⟩
  | 43 => ⟨S_, .f32⟩
  | 44 => ⟨S131072, .f32⟩
  | 45 => ⟨S131072, .f32⟩
  | 46 => ⟨S131072x1, .f32⟩
  | 47 => ⟨S131072x1, .f32⟩
  | 48 => ⟨S131072x1, .f32⟩
  | 49 => ⟨S131072x1, .f32⟩
  | 50 => ⟨S131072x1, .f32⟩
  | 51 => ⟨S131072x1, .f32⟩
  | 52 => ⟨S131072x1, .f32⟩
  | 53 => ⟨S131072x1, .f32⟩
  | 54 => ⟨S131072x8, .f32⟩
  | 55 => ⟨S8x1024, .f32⟩
  | 56 => ⟨S131072x1024, .f32⟩
  | 57 => ⟨S1x1024, .f32⟩
  | 58 => ⟨S131072x1024, .f32⟩
  | 59 => ⟨S131072x1024, .f32⟩
  | 60 => ⟨S1x1024, .f32⟩
  | 61 => ⟨S131072x1024, .f32⟩
  | 62 => ⟨S131072x1024, .f32⟩
  | 63 => ⟨S_, .f32⟩
  | 64 => ⟨S_, .f32⟩
  | 65 => ⟨S131072x1024, .f32⟩
  | 66 => ⟨S131072x1024, .f32⟩
  | 67 => ⟨S1x1024, .f32⟩
  | 68 => ⟨S131072x1024, .f32⟩
  | 69 => ⟨S131072x1024, .f32⟩
  | 70 => ⟨S131072x1024, .f32⟩
  | 71 => ⟨S1024x1024, .f32⟩
  | 72 => ⟨S131072x1024, .f32⟩
  | 73 => ⟨S1x1024, .f32⟩
  | 74 => ⟨S131072x1024, .f32⟩
  | 75 => ⟨S131072x1024, .f32⟩
  | 76 => ⟨S1x1024, .f32⟩
  | 77 => ⟨S131072x1024, .f32⟩
  | 78 => ⟨S131072x1024, .f32⟩
  | 79 => ⟨S_, .f32⟩
  | 80 => ⟨S_, .f32⟩
  | 81 => ⟨S131072x1024, .f32⟩
  | 82 => ⟨S131072x1024, .f32⟩
  | 83 => ⟨S1x1024, .f32⟩
  | 84 => ⟨S131072x1024, .f32⟩
  | 85 => ⟨S131072x1024, .f32⟩
  | 86 => ⟨S131072x1024, .f32⟩
  | 87 => ⟨S1024x1, .f32⟩
  | 88 => ⟨S131072x1, .f32⟩
  | 89 => ⟨S1x1, .f32⟩
  | 90 => ⟨S131072x1, .f32⟩
  | 91 => ⟨S131072x1, .f32⟩
  | 92 => ⟨S131072, .f32⟩
  | _ => ⟨S131072x16, .f32⟩

abbrev hbmTy (i : Nat) : BufTy := match i / 128 with
  | 0 => hbmTy0_0 i
  | 1 => hbmTy0_1 i
  | _ => ⟨S131072x16, .f32⟩

abbrev bufTy : (tb : Table) → Fin (tcTables nBuf tb) → BufTy
  | .hbm, ⟨i, _⟩ => hbmTy i
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_cst_3 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_c_7 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v24 : Ref sig .tc := ⟨.hbm, 50, rfl⟩
abbrev main_c_8 : Ref sig .tc := ⟨.hbm, 51, rfl⟩
abbrev main_v25 : Ref sig .tc := ⟨.hbm, 52, rfl⟩
abbrev main_v26 : Ref sig .tc := ⟨.hbm, 53, rfl⟩
abbrev main_c_9 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_10 : Ref sig .tc := ⟨.hbm, 60, rfl⟩
abbrev main_v32 : Ref sig .tc := ⟨.hbm, 61, rfl⟩
abbrev main_v33 : Ref sig .tc := ⟨.hbm, 62, rfl⟩
abbrev main_c_11 : Ref sig .tc := ⟨.hbm, 63, rfl⟩
abbrev main_v34 : Ref sig .tc := ⟨.hbm, 64, rfl⟩
abbrev main_v35 : Ref sig .tc := ⟨.hbm, 65, rfl⟩
abbrev main_c_12 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_13 : Ref sig .tc := ⟨.hbm, 72, rfl⟩
abbrev main_v41 : Ref sig .tc := ⟨.hbm, 73, rfl⟩
abbrev main_v42 : Ref sig .tc := ⟨.hbm, 74, rfl⟩
abbrev main_c_14 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_15 : Ref sig .tc := ⟨.hbm, 81, rfl⟩
abbrev main_v48 : Ref sig .tc := ⟨.hbm, 82, rfl⟩
abbrev main_v49 : Ref sig .tc := ⟨.hbm, 83, rfl⟩
abbrev main_c_16 : Ref sig .tc := ⟨.hbm, 84, rfl⟩
abbrev main_v50 : Ref sig .tc := ⟨.hbm, 85, rfl⟩
abbrev main_v51 : Ref sig .tc := ⟨.hbm, 86, rfl⟩
abbrev main_c_17 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_18 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_19 : Ref sig .tc := ⟨.hbm, 109, rfl⟩
abbrev main_v72 : Ref sig .tc := ⟨.hbm, 110, rfl⟩
abbrev main_c_20 : Ref sig .tc := ⟨.hbm, 111, rfl⟩
abbrev main_v73 : Ref sig .tc := ⟨.hbm, 112, rfl⟩
abbrev main_v74 : Ref sig .tc := ⟨.hbm, 113, rfl⟩
abbrev main_c_21 : Ref sig .tc := ⟨.hbm, 114, rfl⟩
abbrev main_c_22 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_v75 : Ref sig .tc := ⟨.hbm, 121, rfl⟩
abbrev main_c_23 : Ref sig .tc := ⟨.hbm, 122, rfl⟩
abbrev main_v76 : Ref sig .tc := ⟨.hbm, 123, rfl⟩
abbrev main_v77 : Ref sig .tc := ⟨.hbm, 124, rfl⟩
abbrev main_c_24 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_c_25 : Ref sig .tc := ⟨.hbm, 131, rfl⟩
abbrev main_v83 : Ref sig .tc := ⟨.hbm, 132, rfl⟩
abbrev main_v84 : Ref sig .tc := ⟨.hbm, 133, rfl⟩
abbrev main_c_26 : Ref sig .tc := ⟨.hbm, 134, rfl⟩
abbrev main_v85 : Ref sig .tc := ⟨.hbm, 135, rfl⟩
abbrev main_v86 : Ref sig .tc := ⟨.hbm, 136, rfl⟩
abbrev main_c_27 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_c_28 : Ref sig .tc := ⟨.hbm, 143, rfl⟩
abbrev main_v92 : Ref sig .tc := ⟨.hbm, 144, rfl⟩
abbrev main_v93 : Ref sig .tc := ⟨.hbm, 145, rfl⟩
abbrev main_c_29 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_c_30 : Ref sig .tc := ⟨.hbm, 152, rfl⟩
abbrev main_v99 : Ref sig .tc := ⟨.hbm, 153, rfl⟩
abbrev main_v100 : Ref sig .tc := ⟨.hbm, 154, rfl⟩
abbrev main_c_31 : Ref sig .tc := ⟨.hbm, 155, rfl⟩
abbrev main_v101 : Ref sig .tc := ⟨.hbm, 156, rfl⟩
abbrev main_v102 : Ref sig .tc := ⟨.hbm, 157, rfl⟩
abbrev main_c_32 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_33 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_34 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_35 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩

abbrev nD : Nat := 1
abbrev τ : Topo := Topo.v7x

variable {F : FTy → Type} [FloatOps F]
-- ==== Proof.Consts.lean ====
/- The reals that the literals of the two programs are, and the ledger values of the kernel's named constants. -/
module

public import Idealize.ShloMosaic.PureOps.Ideal
public import Idealize.ShloMosaic.Lib.Pointwise
public import proofs.«01_k».proof.KernelIdeal

@[expose] public section

noncomputable section

namespace Cert.Consts

open Idealize.ShloMosaic

theorem w_zero : Ideal.ofBits .f32 0x00000000#32 = 0 := by simp [Ideal.ofBits, Ideal.ieee]
theorem w_half : Ideal.ofBits .f32 0x3F000000#32 = ((1 / 2 : ℝ) : EReal) := by simp [Ideal.ofBits, Ideal.ieee, -EReal.coe_mul]; norm_num
theorem w_one : Ideal.ofBits .f32 0x3F800000#32 = ((1 : ℝ) : EReal) := by simp [Ideal.ofBits, Ideal.ieee, -EReal.coe_mul]; norm_num
theorem w_neg_one : Ideal.ofBits .f32 0xBF800000#32 = ((-1 : ℝ) : EReal) := by simp [Ideal.ofBits, Ideal.ieee, -EReal.coe_mul]; norm_num
theorem w_five_halves : Ideal.ofBits .f32 0x40200000#32 = ((5 / 2 : ℝ) : EReal) := by simp [Ideal.ofBits, Ideal.ieee, -EReal.coe_mul]; norm_num
theorem w_neg_five_halves : Ideal.ofBits .f32 0xC0200000#32 = ((-(5 / 2) : ℝ) : EReal) := by simp [Ideal.ofBits, Ideal.ieee, -EReal.coe_mul]; norm_num
theorem w_ten : Ideal.ofBits .f32 0x41200000#32 = ((10 : ℝ) : EReal) := by simp [Ideal.ofBits, Ideal.ieee, -EReal.coe_mul]; norm_num
theorem w_neg_ten : Ideal.ofBits .f32 0xC1200000#32 = ((-10 : ℝ) : EReal) := by simp [Ideal.ofBits, Ideal.ieee, -EReal.coe_mul]; norm_num
theorem w_width : Ideal.ofBits .f32 0x40F00000#32 = ((15 / 2 : ℝ) : EReal) := by simp [Ideal.ofBits, Ideal.ieee, -EReal.coe_mul]; norm_num
theorem w_thousand : Ideal.ofBits .f32 0x447A0000#32 = ((1000 : ℝ) : EReal) := by simp [Ideal.ofBits, Ideal.ieee, -EReal.coe_mul]; norm_num
/-- The two entries of the table, in units of the seventh decimal, and the ten million they are divided by. -/
theorem w_end : Ideal.ofBits .f32 0x4A989680#32 = ((5000000 : ℝ) : EReal) := by simp [Ideal.ofBits, Ideal.ieee, -EReal.coe_mul]; norm_num
theorem w_mid : Ideal.ofBits .f32 0x4A509DC0#32 = ((3417968 : ℝ) : EReal) := by simp [Ideal.ofBits, Ideal.ieee, -EReal.coe_mul]; norm_num
theorem w_unit : Ideal.ofBits .f32 0x4B189680#32 = ((10000000 : ℝ) : EReal) := by simp [Ideal.ofBits, Ideal.ieee, -EReal.coe_mul]
/-- The integral coefficient, a float and so a real. -/
theorem w_ki : ∃ r : ℝ, Ideal.ofBits .f32 0x3E19FFFE#32 = (r : EReal) := ⟨_, by simp [Ideal.ofBits, Ideal.ieee, -EReal.coe_mul]; rfl⟩
/-- The derivative coefficient. -/
theorem w_kd : ∃ r : ℝ, Ideal.ofBits .f32 0x3C1FFFE5#32 = (r : EReal) := ⟨_, by simp [Ideal.ofBits, Ideal.ieee, -EReal.coe_mul]; rfl⟩
/-- The normalization's factor is the reciprocal root of a positive real. -/
theorem w_rs : ∃ r : ℝ, Ideal.rsqrt (Ideal.ofBits .f32 0x3F800054#32) = (r : EReal) := by
  have e : Ideal.ofBits .f32 0x3F800054#32 = ((2097173 / 2097152 : ℝ) : EReal) := by simp [Ideal.ofBits, Ideal.ieee, -EReal.coe_mul]; norm_num
  rw [e, Ideal.rsqrt_coe, if_neg (by norm_num), if_neg (by norm_num)]
  exact ⟨_, rfl⟩

open Cert.KernelIdeal in
theorem n_kp : Named.named (F := Ideal) (φ := .f32) κ "kp" 0x3EAEFFFD#32 = ((213623 / 625000 : ℝ) : EReal) := IdealRules.named_const.ideal_named_scalar _ _ _ _ rfl
open Cert.KernelIdeal in
theorem n_lo : Named.named (F := Ideal) (φ := .f32) κ "slope_lo" 0xBE220005#32 = ((-98877 / 625000 : ℝ) : EReal) := IdealRules.named_const.ideal_named_scalar _ _ _ _ rfl
open Cert.KernelIdeal in
theorem n_hi : Named.named (F := Ideal) (φ := .f32) κ "slope_hi" 0x3E220005#32 = ((98877 / 625000 : ℝ) : EReal) := IdealRules.named_const.ideal_named_scalar _ _ _ _ rfl

end Cert.Consts

end
-- ==== Proof.Maths.lean ====
/- The arithmetic that the two programs differ by, over the extended reals: a scale folded into a weight matrix, a bias
   carried as one more column of it, and a table interpolated by cases instead of by a lookup. No program is named here. -/
module

public import Idealize.ShloMosaic.PureOps.Ideal
public import Idealize.ShloMosaic.Lib.Pointwise

@[expose] public section

noncomputable section

namespace Cert.Maths

open Idealize.ShloMosaic

/-! ## Sums -/

/-- A finite sum of products of reals, read in the extended reals. -/
theorem coe_dot {n : ℕ} (a b : Fin n → ℝ) : ∑ k, (a k : EReal) * (b k : EReal) = ((∑ k, a k * b k : ℝ) : EReal) := by
  induction n with
  | zero => simp
  | succ n ih => rw [Fin.sum_univ_succ, Fin.sum_univ_succ, ih, EReal.coe_add, EReal.coe_mul]

/-- A row of `n` weights, one bias and seven zeros against `n` values and eight ones: the weighted sum plus the bias. -/
theorem sum_aug {n : ℕ} (A B : Fin (n + 8) → EReal) (W u : Fin n → EReal) (c : EReal)
    (hW : ∀ k : Fin n, A (Fin.castAdd 8 k) = W k) (hc : A (Fin.natAdd n 0) = c) (h0 : ∀ k : Fin 7, A (Fin.natAdd n k.succ) = 0)
    (hu : ∀ k : Fin n, B (Fin.castAdd 8 k) = u k) (h1 : ∀ k : Fin 8, B (Fin.natAdd n k) = 1) :
    ∑ k, A k * B k = ∑ k, W k * u k + c := by
  rw [Fin.sum_univ_add, Fin.sum_univ_succ (n := 7)]
  simp only [hW, hu, h0, h1, hc, mul_one, zero_mul, Finset.sum_const_zero, add_zero]

/-- A real factor distributes over the sum of a real and anything. -/
theorem add_mul_real (s r : ℝ) (b : EReal) : ((s : EReal) + b) * (r : EReal) = (s : EReal) * r + b * r := by
  induction b with
  | coe b => norm_cast; ring
  | bot =>
    rw [EReal.add_bot]
    rcases lt_trichotomy r 0 with h | h | h
    · rw [EReal.bot_mul_coe_of_neg h, ← EReal.coe_mul, EReal.coe_add_top]
    · subst h; simp
    · rw [EReal.bot_mul_coe_of_pos h, EReal.add_bot]
  | top =>
    rw [EReal.coe_add_top]
    rcases lt_trichotomy r 0 with h | h | h
    · rw [EReal.top_mul_coe_of_neg h, EReal.add_bot]
    · subst h; simp
    · rw [EReal.top_mul_coe_of_pos h, ← EReal.coe_mul, EReal.coe_add_top]

/-- The normalization folded into the layer: weights, scale and values finite, both biases arbitrary. -/
theorem fold_norm {n : ℕ} (W u : Fin n → ℝ) (g r : ℝ) (b be : EReal) :
    ∑ k, ((W k : EReal) * ((g : EReal) * r)) * (u k : EReal) + (b * ((g : EReal) * r) + be)
      = ((g : EReal) * (∑ k, (u k : EReal) * (W k : EReal) + b)) * r + be := by
  have h : ∀ k, ((W k : EReal) * ((g : EReal) * r)) * (u k : EReal) = ((W k * (g * r) : ℝ) : EReal) * (u k : EReal) := by
    intro k; simp only [EReal.coe_mul]
  simp only [h]
  have e : ((g : EReal) * ((∑ k, u k * W k : ℝ) + b)) * (r : EReal) = ((∑ k, u k * W k : ℝ) + b) * ((g * r : ℝ) : EReal) := by
    rw [EReal.coe_mul, mul_comm (g : EReal), mul_assoc]
  rw [coe_dot, coe_dot, ← add_assoc, e, add_mul_real, ← EReal.coe_mul, ← EReal.coe_mul, Finset.sum_mul]
  congr 4
  funext k; ring

/-! ## The hyperbolic tangent is finite -/

theorem tanh_real (z : EReal) : ∃ r : ℝ, Ideal.tanh z = (r : EReal) := by
  induction z with
  | coe r => exact ⟨_, rfl⟩
  | bot => exact ⟨-1, by simp⟩
  | top => exact ⟨1, by simp⟩

/-! ## The interpolated coefficient -/

/-- Linear interpolation between two knots, at reals. -/
theorem interp_real (d x0 x1 y0 y1 : ℝ) (h : x1 - x0 ≠ 0) :
    (y0 : EReal) + Ideal.div (((d : EReal) - x0) * ((y1 : EReal) - y0)) ((x1 : EReal) - x0)
      = ((y0 + (d - x0) * (y1 - y0) * (1 / (x1 - x0)) : ℝ) : EReal) := by
  rw [← EReal.coe_sub, ← EReal.coe_sub, ← EReal.coe_sub, Ideal.div_coe h, ← EReal.coe_mul, ← EReal.coe_mul, ← EReal.coe_add]

/-- The proportional coefficient: linear below -2.5 and above 2.5, constant between. -/
def coeff (d : ℝ) : ℝ :=
  if d ≤ -(5 / 2) then 1 / 2 + (d - -10) * (-98877 / 625000) * (1 / (15 / 2))
  else if 5 / 2 < d then 213623 / 625000 + (d - 5 / 2) * (98877 / 625000) * (1 / (15 / 2))
  else 213623 / 625000

/-- The branches as the kernel takes them. -/
theorem coeff_eq (d : ℝ) : (if (d : EReal) ≤ ((-(5 / 2) : ℝ) : EReal) then
        ((1 / 2 : ℝ) : EReal) + Ideal.div (((d : EReal) - ((-10 : ℝ) : EReal)) * ((-98877 / 625000 : ℝ) : EReal)) ((15 / 2 : ℝ) : EReal)
      else if ((5 / 2 : ℝ) : EReal) < (d : EReal) then
        ((213623 / 625000 : ℝ) : EReal) + Ideal.div (((d : EReal) - ((5 / 2 : ℝ) : EReal)) * ((98877 / 625000 : ℝ) : EReal)) ((15 / 2 : ℝ) : EReal)
      else ((213623 / 625000 : ℝ) : EReal)) = (coeff d : EReal) := by
  have h : (15 / 2 : ℝ) ≠ 0 := by norm_num
  simp only [EReal.coe_le_coe_iff, EReal.coe_lt_coe_iff, coeff, Ideal.div_coe h, ← EReal.coe_sub, ← EReal.coe_mul, ← EReal.coe_add]
  split_ifs <;> rfl

/-! ## The network -/

/-- The eight features of a row of sixteen. -/
def feat (kp ki kd : EReal) (r : Fin 16 → EReal) : Fin 8 → EReal :=
  ![kp * r 15, ki * r 15, kd * r 15, r 9 - r 11, r 8, r 9, r 10, r 11]

/-- The network on features `u`: two layers, each normalized by the factor `rs`, a scale and a shift, and a last one that is not. -/
def net (rs : EReal) (W1 : Fin 1024 → Fin 8 → EReal) (b1 g1 e1 : Fin 1024 → EReal) (W2 : Fin 1024 → Fin 1024 → EReal)
    (b2 g2 e2 : Fin 1024 → EReal) (W3 : Fin 1024 → EReal) (b3 : EReal) (u : Fin 8 → EReal) : EReal :=
  ∑ k, Ideal.tanh ((g2 k * (∑ j, Ideal.tanh ((g1 j * (∑ i, u i * W1 j i + b1 j)) * rs + e1 j) * W2 k j + b2 k)) * rs + e2 k) * W3 k + b3

/-- The network with each normalization folded into its layer's weights and bias. -/
def folded (rs : EReal) (W1 : Fin 1024 → Fin 8 → EReal) (b1 g1 e1 : Fin 1024 → EReal) (W2 : Fin 1024 → Fin 1024 → EReal)
    (b2 g2 e2 : Fin 1024 → EReal) (W3 : Fin 1024 → EReal) (b3 : EReal) (u : Fin 8 → EReal) : EReal :=
  ∑ k, W3 k * Ideal.tanh (∑ j, (W2 k j * (g2 k * rs)) * Ideal.tanh (∑ i, (W1 j i * (g1 j * rs)) * u i + (b1 j * (g1 j * rs) + e1 j))
    + (b2 k * (g2 k * rs) + e2 k)) + b3

/-- The two are one: the features, the two weight matrices, the two scales and the factor finite, everything else arbitrary. -/
theorem folded_eq_net {rs : EReal} {W1 : Fin 1024 → Fin 8 → EReal} {b1 g1 e1 : Fin 1024 → EReal} {W2 : Fin 1024 → Fin 1024 → EReal}
    {b2 g2 e2 : Fin 1024 → EReal} {W3 : Fin 1024 → EReal} {b3 : EReal} {u : Fin 8 → EReal} (hrs : ∃ r : ℝ, rs = r)
    (hW1 : ∀ j i, ∃ r : ℝ, W1 j i = r) (hg1 : ∀ j, ∃ r : ℝ, g1 j = r) (hW2 : ∀ k j, ∃ r : ℝ, W2 k j = r) (hg2 : ∀ k, ∃ r : ℝ, g2 k = r)
    (hu : ∀ i, ∃ r : ℝ, u i = r) : folded rs W1 b1 g1 e1 W2 b2 g2 e2 W3 b3 u = net rs W1 b1 g1 e1 W2 b2 g2 e2 W3 b3 u := by
  obtain ⟨rs, rfl⟩ := hrs
  choose w1 hw1 using hW1
  choose w2 hw2 using hW2
  choose s1 hs1 using hg1
  choose s2 hs2 using hg2
  choose v hv using hu
  unfold folded net
  have l1 : ∀ j, ∑ i, (W1 j i * (g1 j * rs)) * u i + (b1 j * (g1 j * rs) + e1 j) = (g1 j * (∑ i, u i * W1 j i + b1 j)) * rs + e1 j := by
    intro j
    simp only [hw1, hs1, hv]
    exact fold_norm (w1 j) v (s1 j) rs (b1 j) (e1 j)
  simp only [l1]
  choose z hz using fun j => tanh_real ((g1 j * (∑ i, u i * W1 j i + b1 j)) * rs + e1 j)
  simp only [hz]
  have l2 : ∀ k, ∑ j, (W2 k j * (g2 k * rs)) * (z j : EReal) + (b2 k * (g2 k * rs) + e2 k) = (g2 k * (∑ j, (z j : EReal) * W2 k j + b2 k)) * rs + e2 k := by
    intro k
    simp only [hw2, hs2]
    exact fold_norm (w2 k) z (s2 k) rs (b2 k) (e2 k)
  simp only [l2]
  congr 1
  exact Finset.sum_congr rfl fun k _ => mul_comm _ _

/-- The features of a finite row at finite coefficients are finite. -/
theorem feat_real {kp ki kd : EReal} {r : Fin 16 → EReal} (hp : ∃ a : ℝ, kp = a) (hi : ∃ a : ℝ, ki = a) (hd : ∃ a : ℝ, kd = a)
    (h8 : ∃ a : ℝ, r 8 = a) (h9 : ∃ a : ℝ, r 9 = a) (h10 : ∃ a : ℝ, r 10 = a) (h11 : ∃ a : ℝ, r 11 = a) (h15 : ∃ a : ℝ, r 15 = a)
    (i : Fin 8) : ∃ a : ℝ, feat kp ki kd r i = a := by
  obtain ⟨kp, rfl⟩ := hp
  obtain ⟨ki, rfl⟩ := hi
  obtain ⟨kd, rfl⟩ := hd
  obtain ⟨a8, e8⟩ := h8
  obtain ⟨a9, e9⟩ := h9
  obtain ⟨a10, e10⟩ := h10
  obtain ⟨a11, e11⟩ := h11
  obtain ⟨a15, e15⟩ := h15
  unfold feat
  rw [e8, e9, e10, e11, e15, ← EReal.coe_mul, ← EReal.coe_mul, ← EReal.coe_mul, ← EReal.coe_sub]
  fin_cases i <;> exact ⟨_, rfl⟩

end Cert.Maths

end
-- ==== Proof.Payload.lean ====
/- What the kernel's body stores for one row of its block: the folded network on the row's features, the weights and biases read
   off its three augmented matrices. -/
module

public import proofs.«01_k».proof.Proof.Gen.KernelIdeal.Skeleton
public import Idealize.ShloMosaic.Lib.Pointwise
public import proofs.«01_k».proof.Proof.Consts
public import proofs.«01_k».proof.Proof.Maths

@[expose] public section

set_option maxRecDepth 16384

noncomputable section

namespace Cert.KernelIdeal.Payload

open Cert.KernelIdeal Cert.KernelIdeal.Gen Idealize.ShloMosaic Idealize.ShloMosaic.TcCoe Idealize.SL.Sem Cert.Maths

/-- The stored row over any features: three products over augmented rows. -/
theorem pay_apply (v : FVec Ideal S8x512 .f32) (u : FVec Ideal S16x512 .f32) (x1 : FVec Ideal S1024x16 .f32) (x2 : FVec Ideal S1024x1032 .f32)
    (x3 : FVec Ideal S8x1032 .f32) (l : Fin 512) : k0_pay1 v u x1 x2 x3 (ix2 0 l)
      = ∑ k : Fin 1024, x3 (ix2 0 (Fin.castAdd 8 k)) * Ideal.tanh (∑ j : Fin 1024, x2 (ix2 k (Fin.castAdd 8 j)) * Ideal.tanh (∑ i : Fin (8 + 8), x1 (ix2 j i) * u (ix2 i l))
          + ∑ j : Fin 8, x2 (ix2 k (Fin.natAdd 1024 j)) * v (ix2 j l)) + ∑ k : Fin 8, x3 (ix2 0 (Fin.natAdd 1024 k)) * v (ix2 k l) := by
  pointwise [k0_pay1]
  rfl

/-- The row of ones. -/
theorem ones_apply (k : Fin 8) (l : Fin 512) : k0_pay2 (F := Ideal) (ix2 k l) = 1 := by
  pointwise [k0_pay2]

/-- The eight features of a row whose two compared entries are real. -/
theorem feat_apply (x0 : Vec Ideal S16x512 .f32) (l : Fin 512) (r : Fin 16 → EReal) (hr : ∀ k, x0 (ix2 k l) = r k) (p q : ℝ) (hp : r 9 = p) (hq : r 11 = q) (i : Fin 8) :
    k0_pay3 x0 (ix2 (Fin.castAdd 8 i) l) = feat (coeff ((p - q) * (1 / 1000)) : EReal) (Ideal.ofBits .f32 0x3E19FFFE#32) (Ideal.ofBits .f32 0x3C1FFFE5#32) r i := by
  have hd : Ideal.div (x0 (ix2 9 l) - x0 (ix2 11 l)) (Ideal.ofBits .f32 0x447A0000#32) = (((p - q) * (1 / 1000) : ℝ) : EReal) := by
    rw [hr, hr, hp, hq, Consts.w_thousand, Ideal.div_coe (by norm_num), ← EReal.coe_sub, ← EReal.coe_mul]
  have hc := coeff_eq ((p - q) * (1 / 1000))
  rw [← hd, ← Consts.w_half, ← Consts.w_five_halves, ← Consts.w_neg_five_halves, ← Consts.w_neg_ten, ← Consts.w_width, ← Consts.n_kp, ← Consts.n_lo, ← Consts.n_hi] at hc
  pointwise [k0_pay3]
  fin_cases i
  · exact (dif_pos (by decide)).trans (congrArg₂ (· * ·) hc (hr 15))
  · exact (dif_neg (by decide)).trans ((dif_pos (by decide)).trans (congrArg₂ (· * ·) rfl (hr 15)))
  · exact (dif_neg (by decide)).trans ((dif_neg (by decide)).trans ((dif_pos (by decide)).trans (congrArg₂ (· * ·) rfl (hr 15))))
  · exact (dif_neg (by decide)).trans ((dif_neg (by decide)).trans ((dif_neg (by decide)).trans ((dif_pos (by decide)).trans (congrArg₂ (· - ·) (hr 9) (hr 11)))))
  · exact (dif_neg (by decide)).trans ((dif_neg (by decide)).trans ((dif_neg (by decide)).trans ((dif_neg (by decide)).trans ((dif_pos (by decide)).trans (hr 8)))))
  · exact (dif_neg (by decide)).trans ((dif_neg (by decide)).trans ((dif_neg (by decide)).trans ((dif_neg (by decide)).trans ((dif_neg (by decide)).trans
      ((dif_pos (by decide)).trans (hr 9))))))
  · exact (dif_neg (by decide)).trans ((dif_neg (by decide)).trans ((dif_neg (by decide)).trans ((dif_neg (by decide)).trans ((dif_neg (by decide)).trans
      ((dif_neg (by decide)).trans ((dif_pos (by decide)).trans (hr 10)))))))
  · exact (dif_neg (by decide)).trans ((dif_neg (by decide)).trans ((dif_neg (by decide)).trans ((dif_neg (by decide)).trans ((dif_neg (by decide)).trans
      ((dif_neg (by decide)).trans ((dif_neg (by decide)).trans ((dif_pos (by decide)).trans (hr 11))))))))

/-- Below the features the block of a row holds ones. -/
theorem feat_one (x0 : Vec Ideal S16x512 .f32) (l : Fin 512) (i : Fin 8) : k0_pay3 x0 (ix2 (Fin.natAdd 8 i) l) = 1 := by
  have e : ∀ n : ℕ, n < 8 → ¬ (Fin.natAdd 8 i).val - n < 1 := fun n hn => by rw [Fin.val_natAdd]; omega
  pointwise [k0_pay3]
  exact (dif_neg (e 0 (by decide))).trans ((dif_neg (e 1 (by decide))).trans ((dif_neg (e 2 (by decide))).trans ((dif_neg (e 3 (by decide))).trans
    ((dif_neg (e 4 (by decide))).trans ((dif_neg (e 5 (by decide))).trans ((dif_neg (e 6 (by decide))).trans ((dif_neg (e 7 (by decide))).trans
      (ones_apply _ l))))))))

/-- The row that the body stores, from what its five operands hold. -/
theorem pay_value (x0 : Vec Ideal S16x512 .f32) (x1 : FVec Ideal S1024x16 .f32) (x2 : FVec Ideal S1024x1032 .f32) (x3 : FVec Ideal S8x1032 .f32) (l : Fin 512)
    (r : Fin 16 → EReal) (hr : ∀ k, x0 (ix2 k l) = r k) (p q : ℝ) (hp : r 9 = p) (hq : r 11 = q)
    (rs : EReal) (W1 : Fin 1024 → Fin 8 → EReal) (b1 g1 e1 : Fin 1024 → EReal) (W2 : Fin 1024 → Fin 1024 → EReal)
    (b2 g2 e2 : Fin 1024 → EReal) (W3 : Fin 1024 → EReal) (b3 : EReal)
    (h1 : ∀ j (i : Fin 8), x1 (ix2 j (Fin.castAdd 8 i)) = W1 j i * (g1 j * rs)) (h1b : ∀ j, x1 (ix2 j (Fin.natAdd 8 (0 : Fin 8))) = b1 j * (g1 j * rs) + e1 j)
    (h1z : ∀ j (i : Fin 7), x1 (ix2 j (Fin.natAdd 8 i.succ)) = 0)
    (h2 : ∀ k (j : Fin 1024), x2 (ix2 k (Fin.castAdd 8 j)) = W2 k j * (g2 k * rs)) (h2b : ∀ k, x2 (ix2 k (Fin.natAdd 1024 (0 : Fin 8))) = b2 k * (g2 k * rs) + e2 k)
    (h2z : ∀ k (j : Fin 7), x2 (ix2 k (Fin.natAdd 1024 j.succ)) = 0)
    (h3 : ∀ k : Fin 1024, x3 (ix2 0 (Fin.castAdd 8 k)) = W3 k) (h3b : x3 (ix2 0 (Fin.natAdd 1024 (0 : Fin 8))) = b3)
    (h3z : ∀ k : Fin 7, x3 (ix2 0 (Fin.natAdd 1024 k.succ)) = 0) :
    k0_pay1 (k0_pay2 (F := Ideal)) (k0_pay3 x0) x1 x2 x3 (ix2 0 l) = folded rs W1 b1 g1 e1 W2 b2 g2 e2 W3 b3
      (feat (coeff ((p - q) * (1 / 1000)) : EReal) (Ideal.ofBits .f32 0x3E19FFFE#32) (Ideal.ofBits .f32 0x3C1FFFE5#32) r) := by
  have s1 := fun j => sum_aug (fun i : Fin (8 + 8) => x1 (ix2 j i)) (fun i => k0_pay3 x0 (ix2 i l)) _ _ _ (h1 j) (h1b j) (h1z j) (feat_apply x0 l r hr p q hp hq) (feat_one x0 l)
  have s2 : ∀ k, ∑ j : Fin 8, x2 (ix2 k (Fin.natAdd 1024 j)) * (k0_pay2 (F := Ideal)) (ix2 j l) = b2 k * (g2 k * rs) + e2 k := fun k => by
    rw [Fin.sum_univ_succ (n := 7)]
    simp only [ones_apply, h2b, h2z, mul_one, Finset.sum_const_zero, add_zero]
  have s3 : ∑ k : Fin 8, x3 (ix2 0 (Fin.natAdd 1024 k)) * (k0_pay2 (F := Ideal)) (ix2 k l) = b3 := by
    rw [Fin.sum_univ_succ (n := 7)]
    simp only [ones_apply, h3b, h3z, mul_one, Finset.sum_const_zero, add_zero]
  rw [pay_apply, s3]
  simp only [s1, s2, h2, h3]
  rfl

end Cert.KernelIdeal.Payload

end
-- ==== Proof.Entry.lean ====
/- The arrays that the host code makes for the kernel, read entry by entry: the transposed state, the two matrices with the
   normalization folded in, and the last row. -/
module

public import proofs.«01_k».proof.Proof.Gen.KernelIdeal.Frame
public import Idealize.ShloMosaic.Lib.Pipeline.ValueKit
public import Idealize.ShloMosaic.Lib.Routing.OpsOne
public import Idealize.ShloMosaic.Lib.StableHlo.RunRead
public import proofs.«01_k».proof.Proof.Payload

@[expose] public section

set_option maxRecDepth 16384

noncomputable section

namespace Cert.KernelIdeal.Entry

open Cert.KernelIdeal Cert.KernelIdeal.Gen Idealize.ShloMosaic Idealize.ShloMosaic.TcCoe Idealize.SL.Sem Cert.Maths
open Idealize.ShloMosaic.Pipeline (Dat)

variable (m : (ℓ : Loc nD τ sig) → Buf (Elt Ideal) ℓ) (c : Dev nD)

/-- The entry arrays are the host operations' results over the launch contents. -/
theorem V_eq (b : Ref sig .tc) : V m c b = StableHlo.after hostOps0 (fun b => m (c, b)) (Proc.devRef .tc b) := by
  simp only [V, V0, List.flatten_cons, List.flatten_nil, List.append_nil]

/-- The normalization's factor. -/
abbrev RS : EReal := Ideal.rsqrt (Ideal.ofBits .f32 0x3F800054#32)

/-- The first operand is the state transposed. -/
theorem xt (k : Fin 16) (b : Fin 131072) : (V m c main_v27 : FVec Ideal S16x131072 .f32) (ix2 k b) = (m ((c : Thread nD τ).loc main_arg0) : FVec Ideal S131072x16 .f32) (ix2 b k) := by
  rw [V_eq]
  entry_read
  pointwise []

/-! ## The first layer's matrix: weights times the folded scale, the folded bias, seven columns of zeros -/

/-- A scale times the normalization's factor. -/
def scale (g : FVec Ideal S1024 .f32) : FVec Ideal S1024 .f32 :=
  mulf g (broadcastInDim S1024 ![] bcast_S_S1024 (Host.rsqrt (constant S_ .f32 0x3F800054#32)))

/-- The bias of a layer with its normalization folded in. -/
def shift (b g e : FVec Ideal S1024 .f32) : FVec Ideal S1024 .f32 := addf (mulf b (scale g)) e

/-- The first layer's matrix. -/
def mat1 (W : FVec Ideal S1024x8 .f32) (b g e : FVec Ideal S1024 .f32) : FVec Ideal S1024x16 .f32 :=
  concatenate S1024x16 1 [⟨S1024x8, mulf W (broadcastInDim S1024x8 ![0, 1] bcast_S1024x1_S1024x8_0_1 (broadcastInDim S1024x1 ![0] bcast_S1024_S1024x1_0 (scale g)))⟩,
    ⟨S1024x1, broadcastInDim S1024x1 ![0] bcast_S1024_S1024x1_0 (shift b g e)⟩,
    ⟨S1024x7, broadcastInDim S1024x7 ![] bcast_S_S1024x7 (constant S_ .f32 0x00000000#32)⟩] concatenates_S1024x8_S1024x1_S1024x7_S1024x16_d1

/-- Its entries: eight columns of folded weights, one of folded biases, seven of zeros. -/
theorem mat1_apply (W : FVec Ideal S1024x8 .f32) (b g e : FVec Ideal S1024 .f32) (j : Fin 1024) (k : Fin 16) :
    mat1 W b g e (ix2 j k) = if h : k.val < 8 then W (ix2 j ⟨k.val, h⟩) * (g (ix1 j) * RS)
      else if h : k.val - 8 < 1 then b (ix1 j) * (g (ix1 j) * RS) + e (ix1 j) else 0 := by
  pointwise [mat1, scale, shift]

/-- A column of folded weights. -/
theorem mat1_weight (W : FVec Ideal S1024x8 .f32) (b g e : FVec Ideal S1024 .f32) (j : Fin 1024) (k : Fin 8) :
    mat1 W b g e (ix2 j (Fin.castAdd 8 k)) = W (ix2 j k) * (g (ix1 j) * RS) :=
  (mat1_apply W b g e j _).trans (dif_pos k.isLt)

/-- The column of folded biases. -/
theorem mat1_bias (W : FVec Ideal S1024x8 .f32) (b g e : FVec Ideal S1024 .f32) (j : Fin 1024) :
    mat1 W b g e (ix2 j (Fin.natAdd 8 (0 : Fin 8))) = b (ix1 j) * (g (ix1 j) * RS) + e (ix1 j) :=
  (mat1_apply W b g e j _).trans ((dif_neg (by decide)).trans (dif_pos (by decide)))

/-- A column of zeros. -/
theorem mat1_zero (W : FVec Ideal S1024x8 .f32) (b g e : FVec Ideal S1024 .f32) (j : Fin 1024) (k : Fin 7) :
    mat1 W b g e (ix2 j (Fin.natAdd 8 k.succ)) = 0 :=
  (mat1_apply W b g e j _).trans ((dif_neg (by simp)).trans (dif_neg (by simp)))

/-- The second operand is that matrix. -/
theorem V_mat1 : V m c main_v14 = mat1 (m ((c : Thread nD τ).loc main_arg1)) (m ((c : Thread nD τ).loc main_arg2)) (m ((c : Thread nD τ).loc main_arg3))
    (m ((c : Thread nD τ).loc main_arg4)) := by
  rw [V_eq]
  show StableHlo.after hostOps0 _ _ = _
  after_reads_simp
  rfl

/-! ## The second layer's -/

/-- The second layer's matrix. -/
def mat2 (W : FVec Ideal S1024x1024 .f32) (b g e : FVec Ideal S1024 .f32) : FVec Ideal S1024x1032 .f32 :=
  concatenate S1024x1032 1 [⟨S1024x1024, mulf W (broadcastInDim S1024x1024 ![0, 1] bcast_S1024x1_S1024x1024_0_1 (broadcastInDim S1024x1 ![0] bcast_S1024_S1024x1_0 (scale g)))⟩,
    ⟨S1024x1, broadcastInDim S1024x1 ![0] bcast_S1024_S1024x1_0 (shift b g e)⟩,
    ⟨S1024x7, broadcastInDim S1024x7 ![] bcast_S_S1024x7 (constant S_ .f32 0x00000000#32)⟩] concatenates_S1024x1024_S1024x1_S1024x7_S1024x1032_d1

/-- Its entries: 1024 columns of folded weights, one of folded biases, seven of zeros. -/
theorem mat2_apply (W : FVec Ideal S1024x1024 .f32) (b g e : FVec Ideal S1024 .f32) (j : Fin 1024) (k : Fin 1032) :
    mat2 W b g e (ix2 j k) = if h : k.val < 1024 then W (ix2 j ⟨k.val, h⟩) * (g (ix1 j) * RS)
      else if h : k.val - 1024 < 1 then b (ix1 j) * (g (ix1 j) * RS) + e (ix1 j) else 0 := by
  pointwise [mat2, scale, shift]

/-- A column of folded weights. -/
theorem mat2_weight (W : FVec Ideal S1024x1024 .f32) (b g e : FVec Ideal S1024 .f32) (j : Fin 1024) (k : Fin 1024) :
    mat2 W b g e (ix2 j (Fin.castAdd 8 k)) = W (ix2 j k) * (g (ix1 j) * RS) :=
  (mat2_apply W b g e j _).trans (dif_pos k.isLt)

/-- The column of folded biases. -/
theorem mat2_bias (W : FVec Ideal S1024x1024 .f32) (b g e : FVec Ideal S1024 .f32) (j : Fin 1024) :
    mat2 W b g e (ix2 j (Fin.natAdd 1024 (0 : Fin 8))) = b (ix1 j) * (g (ix1 j) * RS) + e (ix1 j) :=
  (mat2_apply W b g e j _).trans ((dif_neg (by decide)).trans (dif_pos (by decide)))

/-- A column of zeros. -/
theorem mat2_zero (W : FVec Ideal S1024x1024 .f32) (b g e : FVec Ideal S1024 .f32) (j : Fin 1024) (k : Fin 7) :
    mat2 W b g e (ix2 j (Fin.natAdd 1024 k.succ)) = 0 :=
  (mat2_apply W b g e j _).trans ((dif_neg (by simp)).trans (dif_neg (by simp)))

/-- The third operand is that matrix. -/
theorem V_mat2 : V m c main_v20 = mat2 (m ((c : Thread nD τ).loc main_arg5)) (m ((c : Thread nD τ).loc main_arg6)) (m ((c : Thread nD τ).loc main_arg7))
    (m ((c : Thread nD τ).loc main_arg8)) := by
  rw [V_eq]
  show StableHlo.after hostOps0 _ _ = _
  after_reads_simp
  rfl

/-! ## The last layer's: one row, written into the first of eight rows of zeros -/

/-- The last layer's row: its weights, its bias and seven zeros. -/
def row3 (W : FVec Ideal S1x1024 .f32) (b : FVec Ideal S1 .f32) : FVec Ideal S1032 .f32 :=
  concatenate S1032 0 [⟨S1024, shapeCast S1024 W shapeCasts_S1x1024_S1024⟩, ⟨S1, b⟩, ⟨S7, broadcastInDim S7 ![] bcast_S_S7 (constant S_ .f32 0x00000000#32)⟩] concatenates_S1024_S1_S7_S1032_d0

/-- That row over seven rows of zeros. -/
def mat3 (W : FVec Ideal S1x1024 .f32) (b : FVec Ideal S1 .f32) : FVec Ideal S8x1032 .f32 :=
  Host.scatter scatter_S8x1032_S1_S1032_0_0_0_0 (fun _ b => b) (broadcastInDim S8x1032 ![] bcast_S_S8x1032 (constant S_ .f32 0x00000000#32))
    (broadcastInDim S1 ![] bcast_S_S1 (constantI S_ 32 0#32)) (row3 W b)

/-- The fourth operand is that matrix. -/
theorem V_mat3 : V m c main_v26 = mat3 (m ((c : Thread nD τ).loc main_arg9)) (m ((c : Thread nD τ).loc main_arg10)) := by
  rw [V_eq]
  show StableHlo.after hostOps0 _ _ = _
  after_reads_simp
  rfl

/-- The row's entries. -/
theorem row3_apply (W : FVec Ideal S1x1024 .f32) (b : FVec Ideal S1 .f32) (k : Fin 1032) :
    row3 W b (ix1 k) = if h : k.val < 1024 then W (ix2 0 ⟨k.val, h⟩)
      else if h : k.val - 1024 < 1 then b (ix1 ⟨k.val - 1024, h⟩) else 0 := by
  pointwise [row3]

/-- A weight. -/
theorem row3_weight (W : FVec Ideal S1x1024 .f32) (b : FVec Ideal S1 .f32) (k : Fin 1024) : row3 W b (ix1 (Fin.castAdd 8 k)) = W (ix2 0 k) :=
  (row3_apply W b _).trans (dif_pos k.isLt)

/-- The bias. -/
theorem row3_bias (W : FVec Ideal S1x1024 .f32) (b : FVec Ideal S1 .f32) : row3 W b (ix1 (Fin.natAdd 1024 (0 : Fin 8))) = b (ix1 0) :=
  (row3_apply W b _).trans ((dif_neg (by decide)).trans (dif_pos (by decide)))

/-- A zero. -/
theorem row3_zero (W : FVec Ideal S1x1024 .f32) (b : FVec Ideal S1 .f32) (k : Fin 7) : row3 W b (ix1 (Fin.natAdd 1024 k.succ)) = 0 :=
  (row3_apply W b _).trans ((dif_neg (by simp)).trans (dif_neg (by simp)))

/-- Which entry an update of the row lands on. -/
theorem lands_row (d : ScatterDims S8x1032 S1 S1032) (hiw : d.insertedWindowDims = [0]) (hsd : d.scatterDimsToOperandDims = [0])
    (idx : IVec S1 32) (hidx : (idx (ix1 0)).toInt = 0) (w' w : Fin 1032) (e : Fin 8) :
    d.resultIdx? (ix1 w') idx = some (ix2 e w) ↔ w' = w ∧ e = 0 := by
  have hm : (0 : Fin 2) ∈ d.scatterDimsToOperandDims := by rw [hsd]; exact List.mem_singleton.2 rfl
  have hkept : d.sKept = [1] := by
    show S8x1032.kept d.insertedWindowDims = _
    rw [hiw]
    rfl
  have hwin0 : d.window (ix1 w') 0 = 0 := by
    unfold ScatterDims.window
    rw [dif_neg fun h => (of_decide_eq_true (List.mem_filter.1 h).2) (by rw [hiw]; exact List.mem_singleton.2 rfl)]
  have hwin1 : d.window (ix1 w') 1 = w'.val := by
    unfold ScatterDims.window
    rw [dif_pos (by rw [hkept]; exact List.mem_singleton.2 rfl)]
    have q : ∀ X : Fin 1, (ix1 w' X).val = w'.val := fun X => by
      obtain rfl : X = 0 := Subsingleton.elim _ _
      rfl
    exact q _
  have hstart1 : d.start (ix1 w') idx 1 = 0 := by
    unfold ScatterDims.start
    rw [dif_neg fun h => by rw [hsd] at h; exact absurd (List.mem_singleton.1 h) (by decide : (1 : Fin 2) ≠ 0)]
  have hstart0 : d.start (ix1 w') idx 0 = 0 := by
    unfold ScatterDims.start
    rw [dif_pos hm]
    have hsi : d.siIdx (ix1 w') ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  have h := Routing.resultIdx?_ix2 d (ix1 w') idx e w
  rw [hstart0, hwin0, hstart1, hwin1] at h
  refine h.trans ?_
  rw [Fin.ext_iff, Fin.ext_iff]
  show _ ↔ _ ∧ e.val = 0
  omega

/-- The matrix's first row is the row that was written. -/
theorem mat3_row (W : FVec Ideal S1x1024 .f32) (b : FVec Ideal S1 .f32) (k : Fin 1032) : mat3 W b (ix2 0 k) = row3 W b (ix1 k) := by
  have lands := lands_row scatter_S8x1032_S1_S1032_0_0_0_0 rfl rfl (broadcastInDim S1 ![] bcast_S_S1 (constantI S_ 32 0#32)) (by pointwise []; rfl)
  exact Routing.scatter_set_hit _ _ _ _ _ _ (fun j hj => (congrArg (row3 W b) (eq_ix1 j)).trans (congrArg (fun t => row3 W b (ix1 t))
    ((lands (j 0) k 0).1 ((congrArg (fun t => ScatterDims.resultIdx? _ t _) (eq_ix1 j).symm).trans hj)).1)) (ix1 k) ((lands k k 0).2 ⟨rfl, rfl⟩)

end Cert.KernelIdeal.Entry
end
-- ==== Proof.KernelValue.lean ====
/- What the kernel leaves in its result, row by row, and that on finite entries it is the network with its normalizations unfolded. -/
module

public import proofs.«01_k».proof.Proof.Entry

@[expose] public section

set_option maxRecDepth 16384

noncomputable section

namespace Cert.KernelIdeal.KernelValue

open Cert.KernelIdeal Cert.KernelIdeal.Gen Cert.KernelIdeal.Entry Idealize.ShloMosaic Idealize.ShloMosaic.TcCoe Idealize.SL.Sem Cert.Maths
open Idealize.ShloMosaic.Pipeline (Dat)

variable (m : (ℓ : Loc nD τ sig) → Buf (Elt Ideal) ℓ) (c : Dev nD)

/-! ## The arguments, at their shapes -/

/-- The state. -/
abbrev ax : FVec Ideal S131072x16 .f32 := m ((c : Thread nD τ).loc main_arg0)
/-- The first layer's weights. -/
abbrev aW1 : FVec Ideal S1024x8 .f32 := m ((c : Thread nD τ).loc main_arg1)
/-- Its bias. -/
abbrev ab1 : FVec Ideal S1024 .f32 := m ((c : Thread nD τ).loc main_arg2)
/-- Its scale. -/
abbrev ag1 : FVec Ideal S1024 .f32 := m ((c : Thread nD τ).loc main_arg3)
/-- Its shift. -/
abbrev ae1 : FVec Ideal S1024 .f32 := m ((c : Thread nD τ).loc main_arg4)
/-- The second layer's weights. -/
abbrev aW2 : FVec Ideal S1024x1024 .f32 := m ((c : Thread nD τ).loc main_arg5)
/-- Its bias. -/
abbrev ab2 : FVec Ideal S1024 .f32 := m ((c : Thread nD τ).loc main_arg6)
/-- Its scale. -/
abbrev ag2 : FVec Ideal S1024 .f32 := m ((c : Thread nD τ).loc main_arg7)
/-- Its shift. -/
abbrev ae2 : FVec Ideal S1024 .f32 := m ((c : Thread nD τ).loc main_arg8)
/-- The last layer's weights. -/
abbrev aW3 : FVec Ideal S1x1024 .f32 := m ((c : Thread nD τ).loc main_arg9)
/-- Its bias. -/
abbrev ab3 : FVec Ideal S1 .f32 := m ((c : Thread nD τ).loc main_arg10)

/-- The features of row `b`, the gap between its fourth and sixth measurements being `p - q`. -/
def row (p q : Fin 131072 → ℝ) (b : Fin 131072) : Fin 8 → EReal :=
  feat (coeff ((p b - q b) * (1 / 1000)) : EReal) (Ideal.ofBits .f32 0x3E19FFFE#32) (Ideal.ofBits .f32 0x3C1FFFE5#32) fun k => ax m c (ix2 b k)

/-- What the kernel computes for row `b`. -/
def value (p q : Fin 131072 → ℝ) (b : Fin 131072) : EReal :=
  folded RS (fun j i => aW1 m c (ix2 j i)) (fun j => ab1 m c (ix1 j)) (fun j => ag1 m c (ix1 j)) (fun j => ae1 m c (ix1 j))
    (fun k j => aW2 m c (ix2 k j)) (fun k => ab2 m c (ix1 k)) (fun k => ag2 m c (ix1 k)) (fun k => ae2 m c (ix1 k))
    (fun k => aW3 m c (ix2 0 k)) (ab3 m c (ix1 0)) (row m c p q b)

/-! ## The blocks of one grid point -/

/-- Which block of each array a grid point takes: the state and the result by columns, the three matrices whole. -/
theorem idx : ∀ t : Fin cfg0.N, win0_0.index t = ![0, t.val] ∧ win0_1.index t = ![0, 0] ∧ win0_2.index t = ![0, 0] ∧ win0_3.index t = ![0, 0]
    ∧ win0_4.index t = ![0, t.val] := (by decide +kernel : ∀ t : Fin grid0.N, _)

/-- The row of the batch at lane `l` of grid point `t`. -/
def lane (t : Fin cfg0.N) (l : Fin 512) : Fin 131072 := ⟨t.val * 512 + l.val, by have h : t.val < 256 := t.isLt; omega⟩

/-- A block of the transposed state. -/
theorem block0 (t : Fin cfg0.N) (k : Fin 16) (l : Fin 512) : (iblk m c 0 t : FVec Ideal S16x512 .f32) (ix2 k l) = ax m c (ix2 (lane t l) k) := by
  refine Eq.trans ?_ (xt m c k (lane t l))
  blk_ext [iblk, V, idx t, lane]
/-- The first layer's matrix is passed whole. -/
theorem block1 (t : Fin cfg0.N) : iblk m c 1 t = V m c main_v14 := by
  blk_ext! [iblk, V, idx t]
/-- So is the second's. -/
theorem block2 (t : Fin cfg0.N) : iblk m c 2 t = V m c main_v20 := by
  blk_ext! [iblk, V, idx t]
/-- So is the last's. -/
theorem block3 (t : Fin cfg0.N) : iblk m c 3 t = V m c main_v26 := by
  blk_ext! [iblk, V, idx t]

/-- The row that grid point `t` stores. -/
theorem point (p q : Fin 131072 → ℝ) (hp : ∀ b, ax m c (ix2 b 9) = p b) (hq : ∀ b, ax m c (ix2 b 11) = q b) (t : Fin cfg0.N) (l : Fin 512) :
    k0_pay1 (k0_pay2 (F := Ideal)) (k0_pay3 (iblk m c 0 t)) (iblk m c 1 t) (iblk m c 2 t) (iblk m c 3 t) (ix2 0 l) = value m c p q (lane t l) := by
  rw [block1, block2, block3, V_mat1, V_mat2, V_mat3]
  exact Payload.pay_value (iblk m c 0 t) _ _ _ l (fun k => ax m c (ix2 (lane t l) k)) (fun k => block0 m c t k l) (p (lane t l)) (q (lane t l)) (hp _) (hq _) RS _ _ _ _ _ _ _ _ _ _
    (mat1_weight _ _ _ _) (mat1_bias _ _ _ _) (mat1_zero _ _ _ _) (mat2_weight _ _ _ _) (mat2_bias _ _ _ _) (mat2_zero _ _ _ _)
    (fun k => (mat3_row _ _ _).trans (row3_weight _ _ k)) ((mat3_row _ _ _).trans (row3_bias _ _)) (fun k => (mat3_row _ _ _).trans (row3_zero _ _ k))

/-- The result array, one row of it written by each grid point. -/
theorem final (p q : Fin 131072 → ℝ) (hp : ∀ b, ax m c (ix2 b 9) = p b) (hq : ∀ b, ax m c (ix2 b 11) = q b) :
    (dats m 0 c).arrAt 4 (cfgs 0).N = fun i : S1x131072.Idx => value m c p q (i 1) := by
  refine (dats m 0 c).arrAt_eq_of_covers 4 _ (by decide +kernel) fun t _ y => ?_
  blk_simp
  rw [after0_4]
  frame_out
  obtain ⟨l, rfl⟩ : ∃ l : Fin 512, y = (ix2 0 l : S1x512.Idx) :=
    ⟨y 1, (eq_ix2 (y : S1x512.Idx)).trans (congrArg (fun a : Fin 1 => (ix2 a (y 1) : S1x512.Idx)) (Subsingleton.elim _ _))⟩
  refine (point m c p q hp hq t l).trans (congrArg (value m c p q) (Fin.ext ?_))
  blk_simp [idx t, lane]

/-- One row of entries, read as a vector. -/
theorem flat (f : Fin 131072 → EReal) : shapeCast S131072 (fun i : S1x131072.Idx => f (i 1)) shapeCasts_S1x131072_S131072 = fun i : S131072.Idx => f (i 0) := by
  funext i
  obtain ⟨b, rfl⟩ : ∃ b : Fin 131072, i = ix1 b := ⟨i 0, eq_ix1 i⟩
  pointwise []

/-- The program's result is that array as a vector. -/
theorem result (p q : Fin 131072 → ℝ) (hp : ∀ b, ax m c (ix2 b 9) = p b) (hq : ∀ b, ax m c (ix2 b 11) = q b) :
    Pipeline.afterTail₀ cfgs (dats m) 0 (V0 m) [hostOps1] c main_v29 = fun i : S131072.Idx => value m c p q (i 0) := by
  have e : Pipeline.withArrays spec0 c (V0 m c) (fun w => (dats m 0 c).arrAt w (cfgs 0).N) (Proc.devRef .tc main_v28)
      = fun i : S1x131072.Idx => value m c p q (i 1) :=
    (Pipeline.withArrays_arr spec0 (by decide) c (V0 m c) _ 4).trans (final m c p q hp hq)
  show StableHlo.after hostOps1 (Pipeline.withArrays spec0 c (V0 m c) (fun w => (dats m 0 c).arrAt w (cfgs 0).N)) (Proc.devRef .tc main_v29) = _
  after_reads_simp
  rw [e]
  exact flat (value m c p q)

/-- Where the entries that the network multiplies are real numbers, folding the normalizations changes nothing. -/
theorem value_net (p q : Fin 131072 → ℝ) (b : Fin 131072) (hx : ∀ k : Fin 4, ∃ r : ℝ, ax m c (ix2 b ⟨8 + k.val, by omega⟩) = r) (h15 : ∃ r : ℝ, ax m c (ix2 b 15) = r)
    (hW1 : ∀ j i, ∃ r : ℝ, aW1 m c (ix2 j i) = r) (hg1 : ∀ j, ∃ r : ℝ, ag1 m c (ix1 j) = r)
    (hW2 : ∀ k j, ∃ r : ℝ, aW2 m c (ix2 k j) = r) (hg2 : ∀ k, ∃ r : ℝ, ag2 m c (ix1 k) = r) :
    value m c p q b = net RS (fun j i => aW1 m c (ix2 j i)) (fun j => ab1 m c (ix1 j)) (fun j => ag1 m c (ix1 j)) (fun j => ae1 m c (ix1 j))
      (fun k j => aW2 m c (ix2 k j)) (fun k => ab2 m c (ix1 k)) (fun k => ag2 m c (ix1 k)) (fun k => ae2 m c (ix1 k))
      (fun k => aW3 m c (ix2 0 k)) (ab3 m c (ix1 0)) (row m c p q b) :=
  folded_eq_net Consts.w_rs hW1 hg1 hW2 hg2 fun i => feat_real ⟨_, rfl⟩ Consts.w_ki Consts.w_kd (hx 0) (hx 1) (hx 2) (hx 3) h15 i

end Cert.KernelIdeal.KernelValue

end
-- ==== Proof.Lookup.lean ====
/- The reference's table lookup, read at a row: how many knots lie below a real number, which segment that is, and what the
   table interpolated on it is. -/
module

public import proofs.«01_k».proof.Proof.Gen.ReferenceIdeal.Run
public import Idealize.ShloMosaic.Lib.Pointwise
public import Idealize.ShloMosaic.Lib.IndicatorCount
public import Idealize.ShloMosaic.Lib.Routing.OpsSet
public import proofs.«01_k».proof.Proof.Consts
public import proofs.«01_k».proof.Proof.Maths

@[expose] public section

set_option maxRecDepth 16384

noncomputable section

namespace Cert.ReferenceIdeal.Lookup

open Cert.ReferenceIdeal Cert.ReferenceIdeal.Gen Idealize.ShloMosaic Idealize.ShloMosaic.TcCoe Idealize.SL.Sem Cert.Maths

/-- The segment of every row: the number of knots below the row's value, less one, kept between 0 and 4. -/
def seg (kn : FVec Ideal S6 .f32) (d : FVec Ideal S131072 .f32) : IVec S131072 32 :=
  minsi (broadcastInDim S131072 ![] bcast_S_S131072 (id (constantI S_ 32 4#32))) (maxsi (broadcastInDim S131072 ![] bcast_S_S131072 (id (constantI S_ 32 0#32))) (subi (Host.reduce IntOp.addi (extui 32 (cmpf .olt (broadcastInDim S131072x6 ![0, 1] bcast_S1x6_S131072x6_0_1 (broadcastInDim S1x6 ![1] bcast_S6_S1x6_1 kn)) (broadcastInDim S131072x6 ![0, 1] bcast_S131072x1_S131072x6_0_1 (broadcastInDim S131072x1 ![0] bcast_S131072_S131072x1_0 d))) natLt_1_32) (constantI S_ 32 0#32) reducesTo_S131072x6_S131072_d1 h_S_) (broadcastInDim S131072 ![] bcast_S_S131072 (constantI S_ 32 1#32))))

/-- The next segment of every row. -/
def next (s : IVec S131072 32) : IVec S131072 32 := addi s (broadcastInDim S131072 ![] bcast_S_S131072 (constantI S_ 32 1#32))

/-- A table's entry at every row's number. -/
def look (tab : FVec Ideal S6 .f32) (s : IVec S131072 32) : FVec Ideal S131072 .f32 :=
  Host.gather gather_S6_S131072x1_S131072_n_0_n_n_0_1_1 tab (broadcastInDim S131072x1 ![0] bcast_S131072_S131072x1_0 (select (cmpi .slt s (broadcastInDim S131072 ![] bcast_S_S131072 (constantI S_ 32 0#32))) (addi s (broadcastInDim S131072 ![] bcast_S_S131072 (constantI S_ 32 6#32))) s))

/-- The table `tab` over the knots `kn`, interpolated at every row. -/
def interp (kn tab : FVec Ideal S6 .f32) (d : FVec Ideal S131072 .f32) : FVec Ideal S131072 .f32 :=
  addf (look tab (seg kn d)) (Host.divf (mulf (subf d (look kn (seg kn d))) (subf (look tab (next (seg kn d))) (look tab (seg kn d)))) (subf (look kn (next (seg kn d))) (look kn (seg kn d))))

/-! ## The lookup at a row -/

/-- A position that is not negative is not wrapped. -/
theorem wrap_word : ∀ n : Fin 6, Scalar.select (IntOp.cmpi .slt (BitVec.ofNat 32 n.val) 0#32) (IntOp.addi (BitVec.ofNat 32 n.val) 6#32) (BitVec.ofNat 32 n.val)
    = BitVec.ofNat 32 n.val := by decide

theorem succ_word : ∀ n : Fin 5, IntOp.addi (BitVec.ofNat 32 n.val) 1#32 = BitVec.ofNat 32 n.succ.val := by decide

theorem look_apply (tab : FVec Ideal S6 .f32) (s : IVec S131072 32) (b : Fin 131072) (n : Fin 6) (h : s (ix1 b) = BitVec.ofNat 32 n.val) :
    look tab s (ix1 b) = tab (ix1 n) := by
  refine Routing.gather_take1 gather_S6_S131072x1_S131072_n_0_n_n_0_1_1 rfl rfl rfl rfl tab _ b n ?_ (by norm_num)
  pointwise []
  show Scalar.select (IntOp.cmpi .slt (s (ix1 b)) 0#32) (IntOp.addi (s (ix1 b)) 6#32) (s (ix1 b)) = BitVec.ofNat 32 n.val
  rw [h]
  exact wrap_word n

theorem next_apply (s : IVec S131072 32) (b : Fin 131072) (n : Fin 5) (h : s (ix1 b) = BitVec.ofNat 32 n.val) :
    next s (ix1 b) = BitVec.ofNat 32 n.succ.val := by
  pointwise [next]
  rw [h]
  exact succ_word n

theorem clip_word : ∀ n : Fin 7, IntOp.minsi 4#32 (IntOp.maxsi 0#32 (IntOp.subi (BitVec.ofNat 32 n.val) 1#32)) = BitVec.ofNat 32 (min 4 (n.val - 1)) := by
  decide

/-- The segment of a row is the number of knots below the row's value, less one, kept between 0 and 4. -/
theorem seg_apply (kn : FVec Ideal S6 .f32) (d : FVec Ideal S131072 .f32) (b : Fin 131072) :
    seg kn d (ix1 b) = BitVec.ofNat 32 (min 4 ((∑ x : Fin 6, if kn (ix1 x) < d (ix1 b) then 1 else 0) - 1)) := by
  pointwise [seg]
  rw [IndicatorCount.fold_addi_setWidth_eq_card]
  have hc : (Finset.univ.filter fun x : Fin 6 => BitVec.ofBool (decide (kn (ix1 x) < d (ix1 b))) = 1#1).card
      = ∑ x : Fin 6, if kn (ix1 x) < d (ix1 b) then 1 else 0 := by
    rw [Finset.card_filter]
    refine Finset.sum_congr rfl fun x _ => ?_
    by_cases h : kn (ix1 x) < d (ix1 b) <;> simp [h]
  have hl : (∑ x : Fin 6, if kn (ix1 x) < d (ix1 b) then 1 else 0) < 7 := by
    rw [← hc]
    exact lt_of_le_of_lt (Finset.card_le_univ _) (by simp)
  show IntOp.minsi 4#32 (IntOp.maxsi 0#32 (IntOp.subi (BitVec.ofNat 32 (Finset.univ.filter fun x : Fin 6 =>
    BitVec.ofBool (decide (kn (ix1 x) < d (ix1 b))) = 1#1).card) 1#32)) = _
  rw [hc]
  exact clip_word ⟨_, hl⟩

/-- The knots as both tables of the program spell them. -/
def IsKnots (kn : FVec Ideal S6 .f32) : Prop :=
  kn (ix1 0) = ((-10 : ℝ) : EReal) ∧ kn (ix1 1) = ((-(5 / 2) : ℝ) : EReal) ∧ kn (ix1 2) = ((-1 : ℝ) : EReal)
    ∧ kn (ix1 3) = ((1 : ℝ) : EReal) ∧ kn (ix1 4) = ((5 / 2 : ℝ) : EReal) ∧ kn (ix1 5) = ((10 : ℝ) : EReal)

/-- The segment of a real: the first up to -2.5, the last above 2.5, one of the three others between. -/
theorem seg_real (kn : FVec Ideal S6 .f32) (hk : IsKnots kn) (d : FVec Ideal S131072 .f32) (b : Fin 131072) (r : ℝ) (hd : d (ix1 b) = (r : EReal)) :
    ∃ n : Fin 5, seg kn d (ix1 b) = BitVec.ofNat 32 n.val ∧ (n = 0 ∧ r ≤ -(5 / 2) ∨ n = 4 ∧ 5 / 2 < r ∨ (n = 1 ∨ n = 2 ∨ n = 3) ∧ ¬ r ≤ -(5 / 2) ∧ ¬ 5 / 2 < r) := by
  obtain ⟨h0, h1, h2, h3, h4, h5⟩ := hk
  rw [seg_apply, hd, Fin.sum_univ_six, h0, h1, h2, h3, h4, h5]
  simp only [EReal.coe_lt_coe_iff]
  rcases le_or_gt r (-(5 / 2)) with c1 | c1
  · refine ⟨0, ?_, .inl ⟨rfl, c1⟩⟩
    rw [if_neg (show ¬ (-(5 / 2) : ℝ) < r by linarith), if_neg (show ¬ (-1 : ℝ) < r by linarith), if_neg (show ¬ (1 : ℝ) < r by linarith),
      if_neg (show ¬ (5 / 2 : ℝ) < r by linarith), if_neg (show ¬ (10 : ℝ) < r by linarith)]
    split_ifs <;> rfl
  rw [if_pos (show (-10 : ℝ) < r by linarith), if_pos c1]
  rcases le_or_gt r (-1) with c2 | c2
  · refine ⟨1, ?_, .inr (.inr ⟨.inl rfl, not_le.2 c1, by linarith⟩)⟩
    rw [if_neg (show ¬ (-1 : ℝ) < r by linarith), if_neg (show ¬ (1 : ℝ) < r by linarith),
      if_neg (show ¬ (5 / 2 : ℝ) < r by linarith), if_neg (show ¬ (10 : ℝ) < r by linarith)]
    rfl
  rw [if_pos c2]
  rcases le_or_gt r 1 with c3 | c3
  · refine ⟨2, ?_, .inr (.inr ⟨.inr (.inl rfl), not_le.2 c1, by linarith⟩)⟩
    rw [if_neg (show ¬ (1 : ℝ) < r by linarith), if_neg (show ¬ (5 / 2 : ℝ) < r by linarith), if_neg (show ¬ (10 : ℝ) < r by linarith)]
    rfl
  rw [if_pos c3]
  rcases le_or_gt r (5 / 2) with c4 | c4
  · refine ⟨3, ?_, .inr (.inr ⟨.inr (.inr rfl), not_le.2 c1, by linarith⟩)⟩
    rw [if_neg (show ¬ (5 / 2 : ℝ) < r by linarith), if_neg (show ¬ (10 : ℝ) < r by linarith)]
    rfl
  refine ⟨4, ?_, .inr (.inl ⟨rfl, c4⟩)⟩
  rw [if_pos c4]
  split_ifs <;> rfl

/-- The interpolation on the segment that the row's value lies on. -/
theorem interp_apply (kn tab : FVec Ideal S6 .f32) (d : FVec Ideal S131072 .f32) (b : Fin 131072) (n : Fin 5)
    (h : seg kn d (ix1 b) = BitVec.ofNat 32 n.val) :
    interp kn tab d (ix1 b) = tab (ix1 n.castSucc) + Ideal.div ((d (ix1 b) - kn (ix1 n.castSucc)) * (tab (ix1 n.succ) - tab (ix1 n.castSucc)))
      (kn (ix1 n.succ) - kn (ix1 n.castSucc)) := by
  pointwise [interp]
  rw [look_apply tab _ b n.castSucc h, look_apply kn _ b n.castSucc h, look_apply tab _ b n.succ (next_apply _ b n h), look_apply kn _ b n.succ (next_apply _ b n h)]

/-- The proportional coefficient's table interpolated at a real. -/
theorem interp_kp (kn tab : FVec Ideal S6 .f32) (hk : IsKnots kn)
    (ht : tab (ix1 0) = ((1 / 2 : ℝ) : EReal) ∧ tab (ix1 1) = ((213623 / 625000 : ℝ) : EReal) ∧ tab (ix1 2) = ((213623 / 625000 : ℝ) : EReal)
      ∧ tab (ix1 3) = ((213623 / 625000 : ℝ) : EReal) ∧ tab (ix1 4) = ((213623 / 625000 : ℝ) : EReal) ∧ tab (ix1 5) = ((1 / 2 : ℝ) : EReal))
    (d : FVec Ideal S131072 .f32) (b : Fin 131072) (r : ℝ) (hd : d (ix1 b) = (r : EReal)) : interp kn tab d (ix1 b) = (coeff r : EReal) := by
  obtain ⟨n, hn, hc⟩ := seg_real kn hk d b r hd
  obtain ⟨h0, h1, h2, h3, h4, h5⟩ := hk
  obtain ⟨t0, t1, t2, t3, t4, t5⟩ := ht
  rw [interp_apply kn tab d b n hn, hd]
  rcases hc with ⟨rfl, c⟩ | ⟨rfl, c⟩ | ⟨rfl | rfl | rfl, c, c'⟩
  · show tab (ix1 0) + Ideal.div ((_ - kn (ix1 0)) * (tab (ix1 1) - tab (ix1 0))) (kn (ix1 1) - kn (ix1 0)) = _
    rw [h0, h1, t0, t1, interp_real _ _ _ _ _ (by norm_num), coeff, if_pos c]
    norm_num
  · show tab (ix1 4) + Ideal.div ((_ - kn (ix1 4)) * (tab (ix1 5) - tab (ix1 4))) (kn (ix1 5) - kn (ix1 4)) = _
    rw [h4, h5, t4, t5, interp_real _ _ _ _ _ (by norm_num), coeff, if_neg (by linarith), if_pos c]
    norm_num
  · show tab (ix1 1) + Ideal.div ((_ - kn (ix1 1)) * (tab (ix1 2) - tab (ix1 1))) (kn (ix1 2) - kn (ix1 1)) = _
    rw [h1, h2, t1, t2, interp_real _ _ _ _ _ (by norm_num), coeff, if_neg c, if_neg c']
    norm_num
  · show tab (ix1 2) + Ideal.div ((_ - kn (ix1 2)) * (tab (ix1 3) - tab (ix1 2))) (kn (ix1 3) - kn (ix1 2)) = _
    rw [h2, h3, t2, t3, interp_real _ _ _ _ _ (by norm_num), coeff, if_neg c, if_neg c']
    norm_num
  · show tab (ix1 3) + Ideal.div ((_ - kn (ix1 3)) * (tab (ix1 4) - tab (ix1 3))) (kn (ix1 4) - kn (ix1 3)) = _
    rw [h3, h4, t3, t4, interp_real _ _ _ _ _ (by norm_num), coeff, if_neg c, if_neg c']
    norm_num

/-- A table that is constant, interpolated at a real, is its entry. -/
theorem interp_const (kn tab : FVec Ideal S6 .f32) (hk : IsKnots kn) (a : ℝ) (ht : ∀ k : Fin 6, tab (ix1 k) = (a : EReal))
    (d : FVec Ideal S131072 .f32) (b : Fin 131072) (r : ℝ) (hd : d (ix1 b) = (r : EReal)) : interp kn tab d (ix1 b) = (a : EReal) := by
  obtain ⟨n, hn, hc⟩ := seg_real kn hk d b r hd
  obtain ⟨h0, h1, h2, h3, h4, h5⟩ := hk
  rw [interp_apply kn tab d b n hn, hd, ht, ht]
  have e : ∃ x0 x1 : ℝ, x1 - x0 ≠ 0 ∧ kn (ix1 n.castSucc) = (x0 : EReal) ∧ kn (ix1 n.succ) = (x1 : EReal) := by
    fin_cases n
    · exact ⟨_, _, by norm_num, h0, h1⟩
    · exact ⟨_, _, by norm_num, h1, h2⟩
    · exact ⟨_, _, by norm_num, h2, h3⟩
    · exact ⟨_, _, by norm_num, h3, h4⟩
    · exact ⟨_, _, by norm_num, h4, h5⟩
  obtain ⟨x0, x1, hx, e0, e1⟩ := e
  rw [e0, e1, interp_real _ _ _ _ _ hx]
  norm_num

end Cert.ReferenceIdeal.Lookup

end
-- ==== Proof.RefOut.lean ====
/- The reference's last two layers, read at a row. -/
module

public import proofs.«01_k».proof.Proof.Lookup

@[expose] public section

set_option maxRecDepth 16384

noncomputable section

namespace Cert.ReferenceIdeal.RefOut

open Cert.ReferenceIdeal Cert.ReferenceIdeal.Gen Cert.ReferenceIdeal.Value Cert.ReferenceIdeal.Lookup
open Idealize.ShloMosaic Idealize.ShloMosaic.TcCoe Idealize.SL.Sem Cert.Maths

/-- The last two layers over the first one's values before its hyperbolic tangent. -/
def out (h : FVec Ideal S131072x1024 .f32) (W2 : FVec Ideal S1024x1024 .f32) (b2 g2 e2 : FVec Ideal S1024 .f32) (W3 : FVec Ideal S1x1024 .f32)
    (b3 : FVec Ideal S1 .f32) : FVec Ideal S131072 .f32 :=
  shapeCast _ (addf (Host.dotGeneral dot_S131072x1024_S1024x1_S131072x1_1_0_0_1_n_n none (Host.tanh (addf (mulf (mulf (broadcastInDim S131072x1024 ![0, 1] bcast_S1x1024_S131072x1024_0_1 (broadcastInDim S1x1024 ![1] bcast_S1024_S1x1024_1 g2)) (addf (Host.dotGeneral dot_S131072x1024_S1024x1024_S131072x1024_1_0_0_1_n_n none (Host.tanh h) (transpose S1024x1024 [1, 0] W2 transposes_S1024x1024_S1024x1024_1_0)) (broadcastInDim S131072x1024 ![0, 1] bcast_S1x1024_S131072x1024_0_1 (broadcastInDim S1x1024 ![1] bcast_S1024_S1x1024_1 b2)))) (broadcastInDim S131072x1024 ![] bcast_S_S131072x1024 (Host.rsqrt (constant S_ .f32 0x3F800054#32)))) (broadcastInDim S131072x1024 ![0, 1] bcast_S1x1024_S131072x1024_0_1 (broadcastInDim S1x1024 ![1] bcast_S1024_S1x1024_1 e2)))) (transpose S1024x1 [1, 0] W3 transposes_S1x1024_S1024x1_1_0)) (broadcastInDim S131072x1 ![0, 1] bcast_S1x1_S131072x1_0_1 (broadcastInDim S1x1 ![1] bcast_S1_S1x1_1 b3))) shapeCasts_S131072x1_S131072

/-- The normalization's factor. -/
abbrev RS : EReal := Ideal.rsqrt (Ideal.ofBits .f32 0x3F800054#32)

theorem out_apply (h : FVec Ideal S131072x1024 .f32) (W2 : FVec Ideal S1024x1024 .f32) (b2 g2 e2 : FVec Ideal S1024 .f32) (W3 : FVec Ideal S1x1024 .f32)
    (b3 : FVec Ideal S1 .f32) (b : Fin 131072) :
    out h W2 b2 g2 e2 W3 b3 (ix1 b) = ∑ k : Fin 1024, Ideal.tanh ((g2 (ix1 k) * (∑ j : Fin 1024, Ideal.tanh (h (ix2 b j)) * W2 (ix2 k j) + b2 (ix1 k))) * RS + e2 (ix1 k)) * W3 (ix2 0 k)
      + b3 (ix1 0) := by
  pointwise [out]

end Cert.ReferenceIdeal.RefOut

end
-- ==== Proof.RefValue.lean ====
/- The reference's first layer, read at a row: the features of the row, the two interpolated coefficients among them, against
   the first weight matrix. -/
module

public import proofs.«01_k».proof.Proof.RefOut

@[expose] public section

set_option maxRecDepth 16384

noncomputable section

namespace Cert.ReferenceIdeal.RefValue

open Cert.ReferenceIdeal Cert.ReferenceIdeal.Gen Cert.ReferenceIdeal.Value Cert.ReferenceIdeal.Lookup Cert.ReferenceIdeal.RefOut
open Idealize.ShloMosaic Idealize.ShloMosaic.TcCoe Idealize.SL.Sem Cert.Maths

/-- The rate that scales the coefficients. -/
theorem v11_apply (V0 : Valuation τ sig (Elt Ideal)) (x : FVec Ideal S131072x16 .f32) (hx : V0 (Proc.devRef .tc main_arg0) = x) (b : Fin 131072) :
    res_main_v11 V0 (ix1 b) = x (ix2 b 15) := by
  pointwise [res_main_v11]
  rw [hx]

/-- The high pressure. -/
theorem v5_apply (V0 : Valuation τ sig (Elt Ideal)) (x : FVec Ideal S131072x16 .f32) (hx : V0 (Proc.devRef .tc main_arg0) = x) (b : Fin 131072) :
    res_main_v5 V0 (ix1 b) = x (ix2 b 9) := by
  pointwise [res_main_v5]
  rw [hx]

/-- Its target. -/
theorem v9_apply (V0 : Valuation τ sig (Elt Ideal)) (x : FVec Ideal S131072x16 .f32) (hx : V0 (Proc.devRef .tc main_arg0) = x) (b : Fin 131072) :
    res_main_v9 V0 (ix1 b) = x (ix2 b 11) := by
  pointwise [res_main_v9]
  rw [hx]

/-- The gap between the two. -/
theorem v12_apply (V0 : Valuation τ sig (Elt Ideal)) (x : FVec Ideal S131072x16 .f32) (hx : V0 (Proc.devRef .tc main_arg0) = x) (b : Fin 131072) :
    res_main_v12 V0 (ix1 b) = x (ix2 b 9) - x (ix2 b 11) := by
  pointwise [res_main_v12]
  rw [v5_apply V0 x hx, v9_apply V0 x hx]

/-- The first layer before its hyperbolic tangent. -/
theorem v139_apply (V0 : Valuation τ sig (Elt Ideal)) (x : FVec Ideal S131072x16 .f32) (hx : V0 (Proc.devRef .tc main_arg0) = x)
    (W1 : FVec Ideal S1024x8 .f32) (hW : V0 (Proc.devRef .tc main_arg1) = W1) (b1 g1 e1 : FVec Ideal S1024 .f32) (hb : V0 (Proc.devRef .tc main_arg2) = b1)
    (hg : V0 (Proc.devRef .tc main_arg3) = g1) (he : V0 (Proc.devRef .tc main_arg4) = e1) (b : Fin 131072) (j : Fin 1024) :
    res_main_v139 V0 (ix2 b j) = (g1 (ix1 j) * (∑ i, feat (interp (res_main_cst_0 V0) (res_main_v1 V0) (res_main_v14 V0) (ix1 b))
        (interp (res_main_cst_2 V0) (res_main_cst_1 V0) (res_main_v65 V0) (ix1 b)) (Ideal.ofBits .f32 0x3C1FFFE5#32) (fun k => x (ix2 b k)) i * W1 (ix2 j i)
        + b1 (ix1 j))) * RS + e1 (ix1 j) := by
  pointwise [res_main_v139]
  rw [hW, hb, hg, he]
  refine congrArg₂ (· + ·) (congrArg₂ (· * ·) (congrArg₂ (· * ·) rfl (congrArg₂ (· + ·) (Finset.sum_congr rfl fun i _ => congrArg₂ (· * ·) ?_ rfl) rfl)) rfl) rfl
  fin_cases i
  · exact (dif_pos (by decide)).trans (congrArg₂ (· * ·) rfl (v11_apply V0 x hx b))
  · exact (dif_neg (by decide)).trans ((dif_pos (by decide)).trans (congrArg₂ (· * ·) rfl (v11_apply V0 x hx b)))
  · exact (dif_neg (by decide)).trans ((dif_neg (by decide)).trans ((dif_pos (by decide)).trans (congrArg₂ (· * ·) rfl (v11_apply V0 x hx b))))
  · exact (dif_neg (by decide)).trans ((dif_neg (by decide)).trans ((dif_neg (by decide)).trans ((dif_pos (by decide)).trans (v12_apply V0 x hx b))))
  · exact (dif_neg (by decide)).trans ((dif_neg (by decide)).trans ((dif_neg (by decide)).trans ((dif_neg (by decide)).trans ((dif_pos (by decide)).trans
      (congrFun hx _)))))
  · exact (dif_neg (by decide)).trans ((dif_neg (by decide)).trans ((dif_neg (by decide)).trans ((dif_neg (by decide)).trans ((dif_neg (by decide)).trans
      ((dif_pos (by decide)).trans (v5_apply V0 x hx b))))))
  · exact (dif_neg (by decide)).trans ((dif_neg (by decide)).trans ((dif_neg (by decide)).trans ((dif_neg (by decide)).trans ((dif_neg (by decide)).trans
      ((dif_neg (by decide)).trans ((dif_pos (by decide)).trans (congrFun hx _)))))))
  · exact (dif_neg (by decide)).trans ((dif_neg (by decide)).trans ((dif_neg (by decide)).trans ((dif_neg (by decide)).trans ((dif_neg (by decide)).trans
      ((dif_neg (by decide)).trans ((dif_neg (by decide)).trans (v9_apply V0 x hx b)))))))

/-! ## The tables -/

theorem knots_kp (V0 : Valuation τ sig (Elt Ideal)) : IsKnots (res_main_cst_0 V0) := by
  have e : ∀ k : Fin 6, res_main_cst_0 V0 (ix1 k) = Ideal.ofBits .f32 (lit1 (S6.rowMajor (ix1 k))) := fun k => rfl
  refine ⟨(e 0).trans Consts.w_neg_ten, (e 1).trans Consts.w_neg_five_halves, (e 2).trans Consts.w_neg_one, (e 3).trans Consts.w_one,
    (e 4).trans Consts.w_five_halves, (e 5).trans Consts.w_ten⟩

theorem knots_ki (V0 : Valuation τ sig (Elt Ideal)) : IsKnots (res_main_cst_2 V0) := by
  have e : ∀ k : Fin 6, res_main_cst_2 V0 (ix1 k) = Ideal.ofBits .f32 (lit2 (S6.rowMajor (ix1 k))) := fun k => rfl
  refine ⟨(e 0).trans Consts.w_neg_ten, (e 1).trans Consts.w_neg_five_halves, (e 2).trans Consts.w_neg_one, (e 3).trans Consts.w_one,
    (e 4).trans Consts.w_five_halves, (e 5).trans Consts.w_ten⟩

theorem tab_kp (V0 : Valuation τ sig (Elt Ideal)) (k : Fin 6) :
    res_main_v1 V0 (ix1 k) = Ideal.div (Ideal.ofBits .f32 (lit0 (S6.rowMajor (ix1 k)))) (Ideal.ofBits .f32 0x4B189680#32) := by
  pointwise [res_main_v1]

theorem tab_end : Ideal.div (Ideal.ofBits .f32 0x4A989680#32) (Ideal.ofBits .f32 0x4B189680#32) = ((1 / 2 : ℝ) : EReal) := by
  rw [Consts.w_end, Consts.w_unit, Ideal.div_coe (by norm_num), ← EReal.coe_mul]
  norm_num

theorem tab_mid : Ideal.div (Ideal.ofBits .f32 0x4A509DC0#32) (Ideal.ofBits .f32 0x4B189680#32) = ((213623 / 625000 : ℝ) : EReal) := by
  rw [Consts.w_mid, Consts.w_unit, Ideal.div_coe (by norm_num), ← EReal.coe_mul]
  norm_num

/-- The row's difference in thousands, where the two columns are real. -/
theorem v14_apply (V0 : Valuation τ sig (Elt Ideal)) (x : FVec Ideal S131072x16 .f32) (hx : V0 (Proc.devRef .tc main_arg0) = x) (b : Fin 131072)
    (p q : ℝ) (hp : x (ix2 b 9) = p) (hq : x (ix2 b 11) = q) : res_main_v14 V0 (ix1 b) = (((p - q) * (1 / 1000) : ℝ) : EReal) := by
  pointwise [res_main_v14]
  rw [v12_apply V0 x hx, hp, hq, Consts.w_thousand, Ideal.div_coe (by norm_num), ← EReal.coe_sub, ← EReal.coe_mul]

theorem v65_apply (V0 : Valuation τ sig (Elt Ideal)) (x : FVec Ideal S131072x16 .f32) (hx : V0 (Proc.devRef .tc main_arg0) = x) (b : Fin 131072)
    (p q : ℝ) (hp : x (ix2 b 9) = p) (hq : x (ix2 b 11) = q) : res_main_v65 V0 (ix1 b) = (((p - q) * (1 / 1000) : ℝ) : EReal) :=
  v14_apply V0 x hx b p q hp hq

/-- The interpolated proportional coefficient of a row. -/
theorem kp_apply (V0 : Valuation τ sig (Elt Ideal)) (x : FVec Ideal S131072x16 .f32) (hx : V0 (Proc.devRef .tc main_arg0) = x) (b : Fin 131072)
    (p q : ℝ) (hp : x (ix2 b 9) = p) (hq : x (ix2 b 11) = q) :
    interp (res_main_cst_0 V0) (res_main_v1 V0) (res_main_v14 V0) (ix1 b) = (coeff ((p - q) * (1 / 1000)) : EReal) :=
  interp_kp _ _ (knots_kp V0) ⟨(tab_kp V0 0).trans tab_end, (tab_kp V0 1).trans tab_mid, (tab_kp V0 2).trans tab_mid, (tab_kp V0 3).trans tab_mid,
    (tab_kp V0 4).trans tab_mid, (tab_kp V0 5).trans tab_end⟩ _ b _ (v14_apply V0 x hx b p q hp hq)

/-- The interpolated integral coefficient of a row. -/
theorem ki_apply (V0 : Valuation τ sig (Elt Ideal)) (x : FVec Ideal S131072x16 .f32) (hx : V0 (Proc.devRef .tc main_arg0) = x) (b : Fin 131072)
    (p q : ℝ) (hp : x (ix2 b 9) = p) (hq : x (ix2 b 11) = q) :
    interp (res_main_cst_2 V0) (res_main_cst_1 V0) (res_main_v65 V0) (ix1 b) = Ideal.ofBits .f32 0x3E19FFFE#32 := by
  obtain ⟨a, ha⟩ := Consts.w_ki
  rw [ha]
  exact interp_const _ _ (knots_ki V0) a (fun k => ha) _ b _ (v65_apply V0 x hx b p q hp hq)

/-- The reference's result at a row whose two compared columns are real. -/
theorem result_apply (V0 : Valuation τ sig (Elt Ideal)) (x : FVec Ideal S131072x16 .f32) (hx : V0 (Proc.devRef .tc main_arg0) = x)
    (W1 : FVec Ideal S1024x8 .f32) (hW : V0 (Proc.devRef .tc main_arg1) = W1) (b1 g1 e1 : FVec Ideal S1024 .f32) (hb : V0 (Proc.devRef .tc main_arg2) = b1)
    (hg : V0 (Proc.devRef .tc main_arg3) = g1) (he : V0 (Proc.devRef .tc main_arg4) = e1)
    (W2 : FVec Ideal S1024x1024 .f32) (b2 g2 e2 : FVec Ideal S1024 .f32) (W3 : FVec Ideal S1x1024 .f32) (b3 : FVec Ideal S1 .f32)
    (b : Fin 131072) (p q : ℝ) (hp : x (ix2 b 9) = p) (hq : x (ix2 b 11) = q) :
    out (res_main_v139 V0) W2 b2 g2 e2 W3 b3 (ix1 b)
      = net RS (fun j i => W1 (ix2 j i)) (fun j => b1 (ix1 j)) (fun j => g1 (ix1 j)) (fun j => e1 (ix1 j)) (fun k j => W2 (ix2 k j)) (fun k => b2 (ix1 k))
          (fun k => g2 (ix1 k)) (fun k => e2 (ix1 k)) (fun k => W3 (ix2 0 k)) (b3 (ix1 0))
          (feat (coeff ((p - q) * (1 / 1000)) : EReal) (Ideal.ofBits .f32 0x3E19FFFE#32) (Ideal.ofBits .f32 0x3C1FFFE5#32) fun k => x (ix2 b k)) := by
  rw [out_apply]
  simp only [v139_apply V0 x hx W1 hW b1 g1 e1 hb hg he, kp_apply V0 x hx b p q hp hq, ki_apply V0 x hx b p q hp hq]
  rfl

end Cert.ReferenceIdeal.RefValue

end
-- ==== Proof.Finite.lean ====
module

public import proofs.«01_k».proof.Defs
public import proofs.«01_k».proof.Proof.Gen.Pre_finite_inputs
public import Idealize.ShloMosaic.Lib.Pipeline.ValueKit

@[expose] public section

set_option maxRecDepth 16384

noncomputable section

namespace Cert.Finite

open Cert.Pre_finite_inputs Idealize.ShloMosaic Idealize.SL.Sem

/-- The word of positive infinity denotes the top of the extended reals. -/
theorem w_inf : Ideal.ofBits .f32 0x7F800000#32 = (⊤ : EReal) := by
  simp [Ideal.ofBits, Ideal.ieee]

/-- An entry whose absolute value lies below infinity is a real number. -/
theorem real_of_lt {a : EReal} (h : Ideal.cmp .olt (max a (-a)) (Ideal.ofBits .f32 0x7F800000#32) = 1#1) : ∃ r : ℝ, a = r := by
  rw [w_inf] at h
  have h' : max a (-a) < ⊤ := by
    by_contra hn
    simp [Ideal.cmp, hn] at h
  refine ⟨a.toReal, (EReal.coe_toReal ?_ ?_).symm⟩
  · rintro rfl
    simp at h'
  · rintro rfl
    simp at h'

variable [Facts] (x : FVec Ideal S131072x16 .f32) (W1 : FVec Ideal S1024x8 .f32) (b1 g1 e1 : FVec Ideal S1024 .f32) (W2 : FVec Ideal S1024x1024 .f32)
  (b2 g2 e2 : FVec Ideal S1024 .f32) (W3 : FVec Ideal S1x1024 .f32) (b3 : FVec Ideal S1 .f32)

/-- The four measured columns of the state are real. -/
theorem state (h : (fn (F := Ideal) x W1 b1 g1 e1 W2 b2 g2 e2 W3 b3).1 = fun _ => 1#1) (b : Fin 131072) (k : Fin 4) : ∃ r : ℝ, x (ix2 b ⟨8 + k.val, by omega⟩) = r := by
  have e := congrFun h (ix2 b k)
  pointwise [fn, fn_part1] at e
  exact real_of_lt e

/-- So is its last column. -/
theorem setpoint (h : (fn (F := Ideal) x W1 b1 g1 e1 W2 b2 g2 e2 W3 b3).2.1 = fun _ => 1#1) (b : Fin 131072) : ∃ r : ℝ, x (ix2 b 15) = r := by
  have e := congrFun h (ix1 b)
  pointwise [fn, fn_part1] at e
  exact real_of_lt e

/-- So are the first layer's weights. -/
theorem first_weight (h : (fn (F := Ideal) x W1 b1 g1 e1 W2 b2 g2 e2 W3 b3).2.2.1 = fun _ => 1#1) (j : Fin 1024) (k : Fin 8) : ∃ r : ℝ, W1 (ix2 j k) = r := by
  have e := congrFun h (ix2 j k)
  pointwise [fn, fn_part1] at e
  exact real_of_lt e

/-- So are its scales. -/
theorem first_scale (h : (fn (F := Ideal) x W1 b1 g1 e1 W2 b2 g2 e2 W3 b3).2.2.2.1 = fun _ => 1#1) (j : Fin 1024) : ∃ r : ℝ, g1 (ix1 j) = r := by
  have e := congrFun h (ix1 j)
  pointwise [fn, fn_part1] at e
  exact real_of_lt e

/-- So are the second layer's weights. -/
theorem second_weight (h : (fn (F := Ideal) x W1 b1 g1 e1 W2 b2 g2 e2 W3 b3).2.2.2.2.1 = fun _ => 1#1) (j : Fin 1024) (k : Fin 1024) : ∃ r : ℝ, W2 (ix2 j k) = r := by
  have e := congrFun h (ix2 j k)
  pointwise [fn, fn_part1] at e
  exact real_of_lt e

/-- So are its scales. -/
theorem second_scale (h : (fn (F := Ideal) x W1 b1 g1 e1 W2 b2 g2 e2 W3 b3).2.2.2.2.2 = fun _ => 1#1) (j : Fin 1024) : ∃ r : ℝ, g2 (ix1 j) = r := by
  have e := congrFun h (ix1 j)
  pointwise [fn, fn_part1] at e
  exact real_of_lt e

end Cert.Finite

end
-- ==== Proof.lean ====
/- The five claims, assembled: the frames of the three programs, that the named constants are roundings, and that on finite inputs
   the kernel and the plain mathematics have the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite_inputs
public import proofs.«01_k».proof.Proof.Gen.Kernel.Frame
public import proofs.«01_k».proof.Proof.Gen.KernelIdeal.Frame
public import proofs.«01_k».proof.Proof.Gen.ReferenceIdeal.Run
public import proofs.«01_k».proof.Proof.KernelValue
public import proofs.«01_k».proof.Proof.RefValue
public import proofs.«01_k».proof.Proof.Finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The reference runs and leaves its arguments alone; it has no semaphore to leave raised. -/
theorem frame_ref : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The three named constants are within a rounding of the kernel's words. -/
theorem preserves : Cert.preserves_Kernel_KernelIdeal :=
  ⟨IdealRules.named_const.statement Cert.KernelIdeal.κ "slope_lo" .f32 0xBE220005#32 _ rfl,
    IdealRules.named_const.statement Cert.KernelIdeal.κ "slope_hi" .f32 0x3E220005#32 _ rfl,
    IdealRules.named_const.statement Cert.KernelIdeal.κ "kp" .f32 0x3EAEFFFD#32 _ rfl⟩

/-- On finite inputs the kernel's result is the reference's, at every one of its entries. -/
theorem algebraic : Cert.algebraic_KernelIdeal_ReferenceIdeal_pre_finite_inputs := by
  pair_intro
  · run_from Cert.KernelIdeal.Gen.run_main m g & Cert.KernelIdeal.Gen.unchanged m g
  · run_from Cert.ReferenceIdeal.Value.run (F := Ideal) m' g'
    obtain ⟨h0, h1, h2, h3, h4, h5⟩ := hpre c
    have hx := Cert.Finite.state _ _ _ _ _ _ _ _ _ _ _ h0
    choose p hp using fun b => hx b 1
    choose q hq using fun b => hx b 3
    refine Eq.trans ?_ (Cert.KernelIdeal.KernelValue.result m c p q hp hq).symm
    funext i
    obtain ⟨b, rfl⟩ : ∃ b : Fin 131072, i = ix1 b := ⟨i 0, eq_ix1 i⟩
    obtain ⟨a0, a1, a2, a3, a4, _⟩ := hagree c
    exact (Cert.ReferenceIdeal.RefValue.result_apply (StableHlo.launchContents m' c) _ a0 _ a1 _ _ _ a2 a3 a4 _ _ _ _ _ _ b (p b) (q b) (hp b) (hq b)).trans
      (Cert.KernelIdeal.KernelValue.value_net m c p q b (hx b) (Cert.Finite.setpoint _ _ _ _ _ _ _ _ _ _ _ h1 b) (Cert.Finite.first_weight _ _ _ _ _ _ _ _ _ _ _ h2)
        (Cert.Finite.first_scale _ _ _ _ _ _ _ _ _ _ _ h3) (Cert.Finite.second_weight _ _ _ _ _ _ _ _ _ _ _ h4) (Cert.Finite.second_scale _ _ _ _ _ _ _ _ _ _ _ h5)).symm

/-- All the claims together. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  frame_ref, fun m g _ => frame_ref m g trivial, preserves, algebraic⟩

end Cert.Proof

end
